-- ==== Defs.lean ====
def Pre_Kernel [hPre_rows_assigned : Cert.Pre_rows_assigned.Facts] (m : (ℓ : Loc Cert.Kernel.nD Cert.Kernel.τ Cert.Kernel.sig) → Buf (Elt Bits) ℓ) : Prop :=
  ∀ c : Dev Cert.Kernel.nD,
    (Cert.Pre_rows_assigned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_assigned : Cert.Pre_rows_assigned.Facts] (m : (ℓ : Loc Cert.KernelIdeal.nD Cert.KernelIdeal.τ Cert.KernelIdeal.sig) → Buf (Elt Ideal) ℓ) : Prop :=
  ∀ c : Dev Cert.KernelIdeal.nD,
    (Cert.Pre_rows_assigned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_rows_assigned [hPre_finite_rows_assigned : Cert.Pre_finite_rows_assigned.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_assigned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_assigned [hPre_finite_rows_assigned : Cert.Pre_finite_rows_assigned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_assigned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_assigned : Cert.Pre_rows_assigned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_assigned : Cert.Pre_rows_assigned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows_assigned [hKernelIdeal : Cert.KernelIdeal.Facts] [hPre_finite_rows_assigned : Cert.Pre_finite_rows_assigned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_assigned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows_assigned [hReferenceIdeal : Cert.ReferenceIdeal.Facts] [hPre_finite_rows_assigned : Cert.Pre_finite_rows_assigned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_assigned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_rows_assigned [hKernelIdeal : Cert.KernelIdeal.Facts] [hReferenceIdeal : Cert.ReferenceIdeal.Facts] [hPre_finite_rows_assigned : Cert.Pre_finite_rows_assigned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_assigned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_assigned : Cert.Pre_rows_assigned.Facts) (hPre_finite_rows_assigned : Cert.Pre_finite_rows_assigned.Facts),
    quiescent_Kernel (hKernel := hKernel) (hPre_rows_assigned := hPre_rows_assigned)
    ∧ quiescent_KernelIdeal (hKernelIdeal := hKernelIdeal) (hPre_rows_assigned := hPre_rows_assigned)
    ∧ quiescent_KernelIdeal_pre_finite_rows_assigned (hKernelIdeal := hKernelIdeal) (hPre_finite_rows_assigned := hPre_finite_rows_assigned)
    ∧ quiescent_ReferenceIdeal (hReferenceIdeal := hReferenceIdeal)
    ∧ quiescent_ReferenceIdeal_pre_finite_rows_assigned (hReferenceIdeal := hReferenceIdeal) (hPre_finite_rows_assigned := hPre_finite_rows_assigned)
    ∧ preserves_Kernel_KernelIdeal
    ∧ algebraic_KernelIdeal_ReferenceIdeal_pre_finite_rows_assigned (hKernelIdeal := hKernelIdeal) (hReferenceIdeal := hReferenceIdeal) (hPre_finite_rows_assigned := hPre_finite_rows_assigned)
-- ==== Pre_finite_rows_assigned.lean ====
abbrev S65536x3072 : Shape := ⟨2, ![65536, 3072]⟩
abbrev S32 : Shape := ⟨1, ![32]⟩
abbrev S32x2816x3072 : Shape := ⟨3, ![32, 2816, 3072]⟩
abbrev S32x2816 : Shape := ⟨2, ![32, 2816]⟩
abbrev S_ : Shape := ⟨0, ![]⟩

class Facts : Prop where
  bitsLt_bf16_f32 : FTy.bits .bf16 < FTy.bits .f32
  bcast_S_S65536x3072 : S_.BroadcastsInDim S65536x3072 (![] : Fin 0 → Fin S65536x3072.rank)
  reducesTo_S65536x3072_S_d0_1 : S65536x3072.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S65536x3072 .bf16) (main_arg1 : IVec S32 32) (main_arg2 : FVec F S32x2816x3072 .fp8e4m3) (main_arg3 : FVec F S32x2816 .f32) : IVec S_ 1 :=
  let main_v0 : FVec F S65536x3072 .f32 := (extf .f32 · bitsLt_bf16_f32) main_arg0
  let main_v1 : FVec F S65536x3072 .f32 := Host.absf main_v0
  let main_cst : FVec F S_ .f32 := constant S_ .f32 0x7F7F0000#32
  let main_v2 : FVec F S65536x3072 .f32 := broadcastInDim S65536x3072 ![] bcast_S_S65536x3072 main_cst
  let main_v3 : IVec S65536x3072 1 := cmpf .ole main_v1 main_v2
  let main_c : IVec S_ 1 := constantI S_ 1 1#1
  let main_v4 : IVec S_ 1 := (fun x v => Host.reduce IntOp.andi x v reducesTo_S65536x3072_S_d0_1 h_S_) main_v3 main_c
  let main_c_0 : IVec S_ 32 := constantI S_ 32 0#32
  let main_v5 : IVec S32 32 := broadcastInDim S32 ![] bcast_S_S32 main_c_0
  let main_v6 : IVec S32 1 := cmpi .sge main_arg1 main_v5
  let main_c_1 : IVec S_ 32 := constantI S_ 32 65536#32
  let main_v7 : IVec S32 32 := broadcastInDim S32 ![] bcast_S_S32 main_c_1
  let main_v8 : IVec S32 1 := cmpi .sle main_arg1 main_v7
  let main_v9 : IVec S32 1 := andi main_v6 main_v8
  let main_c_2 : IVec S_ 1 := constantI S_ 1 1#1
  let main_v10 : IVec S_ 1 := (fun x v => Host.reduce IntOp.andi x v reducesTo_S32_S_d0 h_S_) main_v9 main_c_2
  let main_v11 : IVec S_ 1 := andi main_v4 main_v10
  let main_c_3 : IVec S_ 32 := constantI S_ 32 0#32
  let main_v12 : IVec S_ 32 := (fun x v => Host.reduce IntOp.addi x v reducesTo_S32_S_d0 h_S_) main_arg1 main_c_3
  let main_c_4 : IVec S_ 32 := constantI S_ 32 65536#32
  let main_v13 : IVec S_ 1 := cmpi .eq main_v12 main_c_4
  let main_v14 : IVec S_ 1 := andi main_v11 main_v13
  main_v14
-- ==== Pre_rows_assigned.lean ====
abbrev S65536x3072 : Shape := ⟨2, ![65536, 3072]⟩
abbrev S32 : Shape := ⟨1, ![32]⟩
abbrev S32x2816x3072 : Shape := ⟨3, ![32, 2816, 3072]⟩
abbrev S32x2816 : Shape := ⟨2, ![32, 2816]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S65536x3072 .bf16) (main_arg1 : IVec S32 32) (main_arg2 : FVec F S32x2816x3072 .fp8e4m3) (main_arg3 : FVec F S32x2816 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 65536#32
  let main_v2 : IVec S32 32 := broadcastInDim S32 ![] bcast_S_S32 main_c_0
  let main_v3 : IVec S32 1 := cmpi .sle main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg1 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S65536x3072 : Shape := ⟨2, ![65536, 3072]⟩
abbrev S32 : Shape := ⟨1, ![32]⟩
abbrev S32x2816x3072 : Shape := ⟨3, ![32, 2816, 3072]⟩
abbrev S32x2816 : Shape := ⟨2, ![32, 2816]⟩
abbrev S_ : Shape := ⟨0, ![]⟩
abbrev S160 : Shape := ⟨1, ![160]⟩
abbrev S160x1 : Shape := ⟨2, ![160, 1]⟩
abbrev S1x32 : Shape := ⟨2, ![1, 32]⟩
abbrev S160x32 : Shape := ⟨2, ![160, 32]⟩
abbrev S1 : Shape := ⟨1, ![1]⟩
abbrev S32x1x2816 : Shape := ⟨3, ![32, 1, 2816]⟩
abbrev S65536x2816 : Shape := ⟨2, ![65536, 2816]⟩
abbrev S512x3072 : Shape := ⟨2, ![512, 3072]⟩
abbrev S1x2816x3072 : Shape := ⟨3, ![1, 2816, 3072]⟩
abbrev S1x1x2816 : Shape := ⟨3, ![1, 1, 2816]⟩
abbrev S512x2816 : Shape := ⟨2, ![512, 2816]⟩
abbrev S32x3072 : Shape := ⟨2, ![32, 3072]⟩
abbrev S32x128 : Shape := ⟨2, ![32, 128]⟩
abbrev S32x1 : Shape := ⟨2, ![32, 1]⟩
abbrev S1x256 : Shape := ⟨2, ![1, 256]⟩
abbrev S32x256 : Shape := ⟨2, ![32, 256]⟩
abbrev S512x256 : Shape := ⟨2, ![512, 256]⟩
abbrev S1x256x3072 : Shape := ⟨3, ![1, 256, 3072]⟩
abbrev S256x3072 : Shape := ⟨2, ![256, 3072]⟩
abbrev S1x1x256 : Shape := ⟨3, ![1, 1, 256]⟩

abbrev nBuf : Space → Nat
  | .hbm => 156
  | .vmem => 9
  | .smem => 5
  | _ => 0

abbrev hbmTy0_0 (i : Nat) : BufTy := match i % 128 with
  | 0 => ⟨S65536x3072, .bf16⟩
  | 1 => ⟨S32, .i32⟩
  | 2 => ⟨S32x2816x3072, .fp8e4m3⟩
  | 3 => ⟨S32x2816, .f32⟩
  | 4 => ⟨S_, .i32⟩
  | 5 => ⟨S_, .i32⟩
  | 6 => ⟨S32, .i32⟩
  | 7 => ⟨S32, .i32⟩
  | 8 => ⟨S_, .i32⟩
  | 9 => ⟨S_, .i32⟩
  | 10 => ⟨S32, .i32⟩
  | 11 => ⟨S32, .i32⟩
  | 12 => ⟨S32, .i32⟩
  | 13 => ⟨S_, .i32⟩
  | 14 => ⟨S32, .i32⟩
  | 15 => ⟨S32, .i1⟩
  | 16 => ⟨S32, .i32⟩
  | 17 => ⟨S32, .i32⟩
  | 18 => ⟨S_, .i32⟩
  | 19 => ⟨S32, .i32⟩
  | 20 => ⟨S32, .i1⟩
  | 21 => ⟨S32, .i1⟩
  | 22 => ⟨S_, .i32⟩
  | 23 => ⟨S32, .i32⟩
  | 24 => ⟨S32, .i32⟩
  | 25 => ⟨S32, .i32⟩
  | 26 => ⟨S_, .i32⟩
  | 27 => ⟨S32, .i32⟩
  | 28 => ⟨S32, .i32⟩
  | 29 => ⟨S_, .i32⟩
  | 30 => ⟨S_, .i32⟩
  | 31 => ⟨S32, .i32⟩
  | 32 => ⟨S32, .i32⟩
  | 33 => ⟨S32, .i32⟩
  | 34 => ⟨S_, .i32⟩
  | 35 => ⟨S32, .i32⟩
  | 36 => ⟨S32, .i1⟩
  | 37 => ⟨S32, .i32⟩
  | 38 => ⟨S32, .i32⟩
  | 39 => ⟨S_, .i32⟩
  | 40 => ⟨S32, .i32⟩
  | 41 => ⟨S32, .i1⟩
  | 42 => ⟨S32, .i1⟩
  | 43 => ⟨S_, .i32⟩
  | 44 => ⟨S32, .i32⟩
  | 45 => ⟨S32, .i32⟩
  | 46 => ⟨S32, .i32⟩
  | 47 => ⟨S_, .i32⟩
  | 48 => ⟨S32, .i32⟩
  | 49 => ⟨S32, .i1⟩
  | 50 => ⟨S32, .i32⟩
  | 51 => ⟨S_, .i32⟩
  | 52 => ⟨S32, .i32⟩
  | 53 => ⟨S32, .i32⟩
  | 54 => ⟨S_, .i32⟩
  | 55 => ⟨S_, .i32⟩
  | 56 => ⟨S32, .i32⟩
  | 57 => ⟨S32, .i32⟩
  | 58 => ⟨S_, .i32⟩
  | 59 => ⟨S_, .i32⟩
  | 60 => ⟨S32, .i32⟩
  | 61 => ⟨S32, .i32⟩
  | 62 => ⟨S160, .i32⟩
  | 63 => ⟨S160x1, .i32⟩
  | 64 => ⟨S1x32, .i32⟩
  | 65 => ⟨S160x32, .i32⟩
  | 66 => ⟨S160x32, .i32⟩
  | 67 => ⟨S160x32, .i1⟩
  | 68 => ⟨S160x32, .i32⟩
  | 69 => ⟨S_, .i32⟩
  | 70 => ⟨S160, .i32⟩
  | 71 => ⟨S_, .i32⟩
  | 72 => ⟨S160, .i32⟩
  | 73 => ⟨S160, .i32⟩
  | 74 => ⟨S1, .i32⟩
  | 75 => ⟨S_, .i32⟩
  | 76 => ⟨S160, .i32⟩
  | 77 => ⟨S160, .i1⟩
  | 78 => ⟨S_, .i32⟩
  | 79 => ⟨S32, .i32⟩
  | 80 => ⟨S32, .i1⟩
  | 81 => ⟨S32, .i32⟩
  | 82 => ⟨S_, .i32⟩
  | 83 => ⟨S_, .i32⟩
  | 84 => ⟨S32, .i32⟩
  | 85 => ⟨S32, .i32⟩
  | 86 => ⟨S_, .i32⟩
  | 87 => ⟨S_, .i32⟩
  | 88 => ⟨S160, .i32⟩
  | 89 => ⟨S_, .i32⟩
  | 90 => ⟨S160, .i32⟩
  | 91 => ⟨S160, .i1⟩
  | 92 => ⟨S_, .i32⟩
  | 93 => ⟨S160, .i32⟩
  | 94 => ⟨S160, .i32⟩
  | 95 => ⟨S160, .i32⟩
  | 96 => ⟨S160x1, .i32⟩
  | 97 => ⟨S160, .i32⟩
  | 98 => ⟨S160, .i32⟩
  | 99 => ⟨S_, .i32⟩
  | 100 => ⟨S160, .i32⟩
  | 101 => ⟨S160, .i1⟩
  | 102 => ⟨S_, .i32⟩
  | 103 => ⟨S160, .i32⟩
  | 104 => ⟨S160, .i32⟩
  | 105 => ⟨S160, .i32⟩
  | 106 => ⟨S160x1, .i32⟩
  | 107 => ⟨S160, .i32⟩
  | 108 => ⟨S160, .i32⟩
  | 109 => ⟨S_, .i32⟩
  | 110 => ⟨S_, .i32⟩
  | 111 => ⟨S160, .i32⟩
  | 112 => ⟨S_, .i32⟩
  | 113 => ⟨S160, .i32⟩
  | 114 => ⟨S160, .i1⟩
  | 115 => ⟨S_, .i32⟩
  | 116 => ⟨S160, .i32⟩
  | 117 => ⟨S160, .i32⟩
  | 118 => ⟨S160, .i32⟩
  | 119 => ⟨S160x1, .i32⟩
  | 120 => ⟨S160, .i32⟩
  | 121 => ⟨S_, .i32⟩
  | 122 => ⟨S160, .i32⟩
  | 123 => ⟨S160, .i32⟩
  | 124 => ⟨S160, .i32⟩
  | 125 => ⟨S_, .i32⟩
  | 126 => ⟨S160, .i32⟩
  | 127 => ⟨S160, .i32⟩
  | _ => ⟨S65536x3072, .bf16⟩

abbrev hbmTy0_1 (i : Nat) : BufTy := match i % 128 with
  | 0 => ⟨S_, .i32⟩
  | 1 => ⟨S_, .i32⟩
  | 2 => ⟨S160, .i32⟩
  | 3 => ⟨S_, .i32⟩
  | 4 => ⟨S160, .i32⟩
  | 5 => ⟨S160, .i1⟩
  | 6 => ⟨S_, .i32⟩
  | 7 => ⟨S160, .i32⟩
  | 8 => ⟨S160, .i32⟩
  | 9 => ⟨S160, .i32⟩
  | 10 => ⟨S160x1, .i32⟩
  | 11 => ⟨S160, .i32⟩
  | 12 => ⟨S_, .i32⟩
  | 13 => ⟨S160, .i32⟩
  | 14 => ⟨S160, .i32⟩
  | 15 => ⟨S160, .i32⟩
  | 16 => ⟨S_, .i32⟩
  | 17 => ⟨S160, .i32⟩
  | 18 => ⟨S160, .i32⟩
  | 19 => ⟨S_, .i32⟩
  | 20 => ⟨S_, .i32⟩
  | 21 => ⟨S160, .i32⟩
  | 22 => ⟨S_, .i32⟩
  | 23 => ⟨S160, .i32⟩
  | 24 => ⟨S160, .i1⟩
  | 25 => ⟨S160, .i1⟩
  | 26 => ⟨S32x1x2816, .f32⟩
  | 27 => ⟨S65536x2816, .bf16⟩
  | _ => ⟨S65536x3072, .bf16⟩

abbrev hbmTy (i : Nat) : BufTy := match i / 128 with
  | 0 => hbmTy0_0 i
  | 1 => hbmTy0_1 i
  | _ => ⟨S65536x3072, .bf16⟩

abbrev bufTy : (tb : Table) → Fin (tcTables nBuf tb) → BufTy
  | .hbm, ⟨i, _⟩ => hbmTy i
  | .local _ .vmem, ⟨0, _⟩ => ⟨S512x3072, .bf16⟩
  | .local _ .vmem, ⟨1, _⟩ => ⟨S512x3072, .bf16⟩
  | .local _ .vmem, ⟨2, _⟩ => ⟨S1x2816x3072, .fp8e4m3⟩
  | .local _ .vmem, ⟨3, _⟩ => ⟨S1x2816x3072, .fp8e4m3⟩
  | .local _ .vmem, ⟨4, _⟩ => ⟨S1x1x2816, .f32⟩
  | .local _ .vmem, ⟨5, _⟩ => ⟨S1x1x2816, .f32⟩
  | .local _ .vmem, ⟨6, _⟩ => ⟨S512x2816, .bf16⟩
  | .local _ .vmem, ⟨7, _⟩ => ⟨S512x2816, .bf16⟩
  | .local _ .vmem, ⟨8, _⟩ => ⟨S512x3072, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S160, .i32⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_c : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_0 : Ref sig .tc := ⟨.hbm, 43, rfl⟩
abbrev main_call2_v12 : Ref sig .tc := ⟨.hbm, 44, rfl⟩
abbrev main_call2_v13 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_c_5 : Ref sig .tc := ⟨.hbm, 69, rfl⟩
abbrev main_v21 : Ref sig .tc := ⟨.hbm, 70, rfl⟩
abbrev main_c_6 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_7 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_8 : Ref sig .tc := ⟨.hbm, 82, rfl⟩
abbrev main_call5_v0 : Ref sig .tc := ⟨.hbm, 83, rfl⟩
abbrev main_call5_v1 : Ref sig .tc := ⟨.hbm, 84, rfl⟩
abbrev main_v31 : Ref sig .tc := ⟨.hbm, 85, rfl⟩
abbrev main_c_9 : Ref sig .tc := ⟨.hbm, 86, rfl⟩
abbrev main_v32 : Ref sig .tc := ⟨.hbm, 87, rfl⟩
abbrev main_call6_v0 : Ref sig .tc := ⟨.hbm, 88, rfl⟩
abbrev main_c_10 : Ref sig .tc := ⟨.hbm, 89, rfl⟩
abbrev main_v34 : Ref sig .tc := ⟨.hbm, 90, rfl⟩
abbrev main_v35 : Ref sig .tc := ⟨.hbm, 91, rfl⟩
abbrev main_c_11 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_12 : Ref sig .tc := ⟨.hbm, 99, rfl⟩
abbrev main_v42 : Ref sig .tc := ⟨.hbm, 100, rfl⟩
abbrev main_v43 : Ref sig .tc := ⟨.hbm, 101, rfl⟩
abbrev main_c_13 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_c_14 : Ref sig .tc := ⟨.hbm, 109, rfl⟩
abbrev main_call7_v0 : Ref sig .tc := ⟨.hbm, 110, rfl⟩
abbrev main_call7_v1 : Ref sig .tc := ⟨.hbm, 111, rfl⟩
abbrev main_c_15 : Ref sig .tc := ⟨.hbm, 112, rfl⟩
abbrev main_v51 : Ref sig .tc := ⟨.hbm, 113, rfl⟩
abbrev main_v52 : Ref sig .tc := ⟨.hbm, 114, rfl⟩
abbrev main_c_16 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_c_17 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_18 : Ref sig .tc := ⟨.hbm, 125, rfl⟩
abbrev main_v61 : Ref sig .tc := ⟨.hbm, 126, rfl⟩
abbrev main_v62 : Ref sig .tc := ⟨.hbm, 127, rfl⟩
abbrev main_c_19 : Ref sig .tc := ⟨.hbm, 128, rfl⟩
abbrev main_call8_v0 : Ref sig .tc := ⟨.hbm, 129, rfl⟩
abbrev main_call8_v1 : Ref sig .tc := ⟨.hbm, 130, rfl⟩
abbrev main_c_20 : Ref sig .tc := ⟨.hbm, 131, rfl⟩
abbrev main_v64 : Ref sig .tc := ⟨.hbm, 132, rfl⟩
abbrev main_v65 : Ref sig .tc := ⟨.hbm, 133, rfl⟩
abbrev main_c_21 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c_22 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_c_23 : Ref sig .tc := ⟨.hbm, 144, rfl⟩
abbrev main_v74 : Ref sig .tc := ⟨.hbm, 145, rfl⟩
abbrev main_v75 : Ref sig .tc := ⟨.hbm, 146, rfl⟩
abbrev main_c_24 : Ref sig .tc := ⟨.hbm, 147, rfl⟩
abbrev main_call9_v0 : Ref sig .tc := ⟨.hbm, 148, rfl⟩
abbrev main_call9_v1 : Ref sig .tc := ⟨.hbm, 149, rfl⟩
abbrev main_c_25 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v81 : Ref sig .tc := ⟨.hbm, 154, rfl⟩
abbrev main_v82 : Ref sig .tc := ⟨.hbm, 155, rfl⟩
abbrev main_v50 : Ref sig .tc := ⟨.smem, 0, rfl⟩
abbrev main_v33 : Ref sig .tc := ⟨.smem, 1, rfl⟩
abbrev main_v63 : Ref sig .tc := ⟨.smem, 2, rfl⟩
abbrev main_v76 : Ref sig .tc := ⟨.smem, 3, rfl⟩
abbrev main_v80 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_v50.idx, main_v33.idx, main_v63.idx, main_v76.idx, main_v80.idx], fun | 0 => main_v50.names | 1 => main_v33.names | 2 => main_v63.names | 3 => main_v76.names | 4 => main_v80.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c16_i32 : BitVec 32 := 16#32
  let v12 : BitVec 32 := Scalar.addi c0_i32_1 c16_i32
  let c1_i32_2 : BitVec 32 := 1#32
  ⟨c0_i32_1, v12, c1_i32_2⟩
def k0_off2 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v14 : Index := Scalar.indexCast v13
  let c0 : Index := 0#32
  ![v14.toNat, 0]
def k0_off3 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1096 : Index := Scalar.indexCast v13
  let c0_312 : Index := 0#32
  ![v1096.toNat, 0]
def k0_off4 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1100 : Index := Scalar.indexCast v13
  let c128 : Index := 128#32
  ![v1100.toNat, 128]
def k0_off5 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1104 : Index := Scalar.indexCast v13
  let c256 : Index := 256#32
  ![v1104.toNat, 256]
def k0_off6 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1108 : Index := Scalar.indexCast v13
  let c384 : Index := 384#32
  ![v1108.toNat, 384]
def k0_off7 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1112 : Index := Scalar.indexCast v13
  let c512 : Index := 512#32
  ![v1112.toNat, 512]
def k0_off8 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1116 : Index := Scalar.indexCast v13
  let c640 : Index := 640#32
  ![v1116.toNat, 640]
def k0_off9 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1120 : Index := Scalar.indexCast v13
  let c768 : Index := 768#32
  ![v1120.toNat, 768]
def k0_off10 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1124 : Index := Scalar.indexCast v13
  let c896 : Index := 896#32
  ![v1124.toNat, 896]
def k0_off11 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1128 : Index := Scalar.indexCast v13
  let c1024 : Index := 1024#32
  ![v1128.toNat, 1024]
def k0_off12 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1132 : Index := Scalar.indexCast v13
  let c1152 : Index := 1152#32
  ![v1132.toNat, 1152]
def k0_off13 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1136 : Index := Scalar.indexCast v13
  let c1280 : Index := 1280#32
  ![v1136.toNat, 1280]
def k0_off14 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1140 : Index := Scalar.indexCast v13
  let c1408 : Index := 1408#32
  ![v1140.toNat, 1408]
def k0_off15 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1144 : Index := Scalar.indexCast v13
  let c1536 : Index := 1536#32
  ![v1144.toNat, 1536]
def k0_off16 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1148 : Index := Scalar.indexCast v13
  let c1664 : Index := 1664#32
  ![v1148.toNat, 1664]
def k0_off17 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1152 : Index := Scalar.indexCast v13
  let c1792 : Index := 1792#32
  ![v1152.toNat, 1792]
def k0_off18 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1156 : Index := Scalar.indexCast v13
  let c1920 : Index := 1920#32
  ![v1156.toNat, 1920]
def k0_off19 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1160 : Index := Scalar.indexCast v13
  let c2048 : Index := 2048#32
  ![v1160.toNat, 2048]
def k0_off20 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1164 : Index := Scalar.indexCast v13
  let c2176 : Index := 2176#32
  ![v1164.toNat, 2176]
def k0_off21 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1168 : Index := Scalar.indexCast v13
  let c2304 : Index := 2304#32
  ![v1168.toNat, 2304]
def k0_off22 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1172 : Index := Scalar.indexCast v13
  let c2432 : Index := 2432#32
  ![v1172.toNat, 2432]
def k0_off23 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1176 : Index := Scalar.indexCast v13
  let c2560 : Index := 2560#32
  ![v1176.toNat, 2560]
def k0_off24 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1180 : Index := Scalar.indexCast v13
  let c2688 : Index := 2688#32
  ![v1180.toNat, 2688]
def k0_off25 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1184 : Index := Scalar.indexCast v13
  let c2816 : Index := 2816#32
  ![v1184.toNat, 2816]
def k0_off26 (k0_t1 : Fin k0_t1_loop.trips) : Fin 2 → Nat :=
  let c0_i32_1 : BitVec 32 := 0#32
  let c1_i32_2 : BitVec 32 := 1#32
  let arg11 : BitVec 32 := Scf.iv c0_i32_1 c1_i32_2 k0_t1
  let c32_i32 : BitVec 32 := 32#32
  let v13 : BitVec 32 := Scalar.muli arg11 c32_i32
  let v1188 : Index := Scalar.indexCast v13
  let c2944 : Index := 2944#32
  ![v1188.toNat, 2944]
def k0_off27 (i : grid0.Coords) : Fin 1 → Nat :=
  let arg0 : BitVec 32 := BitVec.ofNat 32 (i 0).val
  let v5 : Index := Scalar.indexCast arg0
  ![v5.toNat]
def k0_cond2 (v6 : BitVec 32) (v8 : BitVec 32) : BitVec 1 :=
  let v9 : BitVec 1 := Scalar.cmpi .slt v6 v8
  let v10 : BitVec 32 := Scalar.extui v9
  let c0_i32_0 : BitVec 32 := 0#32
  let v11 : BitVec 1 := Scalar.cmpi .ne v10 c0_i32_0
  v11

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2816x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S65536x3072 : Shape := ⟨2, ![65536, 3072]⟩
abbrev S32 : Shape := ⟨1, ![32]⟩
abbrev S32x2816x3072 : Shape := ⟨3, ![32, 2816, 3072]⟩
abbrev S32x2816 : Shape := ⟨2, ![32, 2816]⟩
abbrev S65536x24x128 : Shape := ⟨3, ![65536, 24, 128]⟩
abbrev S_ : Shape := ⟨0, ![]⟩
abbrev S65536x24 : Shape := ⟨2, ![65536, 24]⟩
abbrev S65536x24x1 : Shape := ⟨3, ![65536, 24, 1]⟩
abbrev S65536 : Shape := ⟨1, ![65536]⟩
abbrev S65536x1 : Shape := ⟨2, ![65536, 1]⟩
abbrev S1x32 : Shape := ⟨2, ![1, 32]⟩
abbrev S65536x32 : Shape := ⟨2, ![65536, 32]⟩
abbrev S32x3072x2816 : Shape := ⟨3, ![32, 3072, 2816]⟩
abbrev S65536x3072x2816 : Shape := ⟨3, ![65536, 3072, 2816]⟩
abbrev S65536x2816 : Shape := ⟨2, ![65536, 2816]⟩

abbrev nBuf : Space → Nat
  | .hbm => 87
  | .vmem => 4
  | .smem => 0
  | _ => 0

abbrev bufTy : (tb : Table) → Fin (tcTables nBuf tb) → BufTy
  | .hbm, ⟨0, _⟩ => ⟨S65536x3072, .bf16⟩
  | .hbm, ⟨1, _⟩ => ⟨S32, .i32⟩
  | .hbm, ⟨2, _⟩ => ⟨S32x2816x3072, .fp8e4m3⟩
  | .hbm, ⟨3, _⟩ => ⟨S32x2816, .f32⟩
  | .hbm, ⟨4, _⟩ => ⟨S65536x3072, .f32⟩
  | .hbm, ⟨5, _⟩ => ⟨S65536x24x128, .f32⟩
  | .hbm, ⟨6, _⟩ => ⟨S65536x24x128, .f32⟩
  | .hbm, ⟨7, _⟩ => ⟨S_, .f32⟩
  | .hbm, ⟨8, _⟩ => ⟨S65536x24, .f32⟩
  | .hbm, ⟨9, _⟩ => ⟨S_, .f32⟩
  | .hbm, ⟨10, _⟩ => ⟨S65536x24, .f32⟩
  | .hbm, ⟨11, _⟩ => ⟨S65536x24, .f32⟩
  | .hbm, ⟨12, _⟩ => ⟨S65536x24, .f32⟩
  | .hbm, ⟨13, _⟩ => ⟨S_, .f32⟩
  | .hbm, ⟨14, _⟩ => ⟨S_, .f32⟩
  | .hbm, ⟨15, _⟩ => ⟨S65536x24, .f32⟩
  | .hbm, ⟨16, _⟩ => ⟨S65536x24, .f32⟩
  | .hbm, ⟨17, _⟩ => ⟨S65536x24, .f32⟩
  | .hbm, ⟨18, _⟩ => ⟨S_, .f32⟩
  | .hbm, ⟨19, _⟩ => ⟨S65536x24, .f32⟩
  | .hbm, ⟨20, _⟩ => ⟨S65536x24, .f32⟩
  | .hbm, ⟨21, _⟩ => ⟨S_, .f32⟩
  | .hbm, ⟨22, _⟩ => ⟨S65536x24, .f32⟩
  | .hbm, ⟨23, _⟩ => ⟨S65536x24, .i1⟩
  | .hbm, ⟨24, _⟩ => ⟨S_, .f32⟩
  | .hbm, ⟨25, _⟩ => ⟨S_, .f32⟩
  | .hbm, ⟨26, _⟩ => ⟨S65536x24, .f32⟩
  | .hbm, ⟨27, _⟩ => ⟨S65536x24, .f32⟩
  | .hbm, ⟨28, _⟩ => ⟨S_, .f32⟩
  | .hbm, ⟨29, _⟩ => ⟨S65536x24, .f32⟩
  | .hbm, ⟨30, _⟩ => ⟨S65536x24, .f32⟩
  | .hbm, ⟨31, _⟩ => ⟨S65536x24, .f32⟩
  | .hbm, ⟨32, _⟩ => ⟨S_, .f32⟩
  | .hbm, ⟨33, _⟩ => ⟨S65536x24, .f32⟩
  | .hbm, ⟨34, _⟩ => ⟨S65536x24, .f32⟩
  | .hbm, ⟨35, _⟩ => ⟨S65536x24x1, .f32⟩
  | .hbm, ⟨36, _⟩ => ⟨S65536x24x128, .f32⟩
  | .hbm, ⟨37, _⟩ => ⟨S65536x24x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S65536x24x128, .f32⟩
  | .hbm, ⟨42, _⟩ => ⟨S65536x24x128, .f32⟩
  | .hbm, ⟨43, _⟩ => ⟨S_, .f32⟩
  | .hbm, ⟨44, _⟩ => ⟨S65536x24x128, .f32⟩
  | .hbm, ⟨45, _⟩ => ⟨S65536x24x128, .f32⟩
  | .hbm, ⟨46, _⟩ => ⟨S65536x3072, .f32⟩
  | .hbm, ⟨47, _⟩ => ⟨S32x2816x3072, .bf16⟩
  | .hbm, ⟨48, _⟩ => ⟨S65536x3072, .bf16⟩
  | .hbm, ⟨49, _⟩ => ⟨S65536x24, .bf16⟩
  | .hbm, ⟨50, _⟩ => ⟨S65536x24x128, .bf16⟩
  | .hbm, ⟨51, _⟩ => ⟨S65536x3072, .bf16⟩
  | .hbm, ⟨52, _⟩ => ⟨S65536x3072, .bf16⟩
  | .hbm, ⟨53, _⟩ => ⟨S65536, .i32⟩
  | .hbm, ⟨54, _⟩ => ⟨S65536x1, .i32⟩
  | .hbm, ⟨55, _⟩ => ⟨S_, .i32⟩
  | .hbm, ⟨56, _⟩ => ⟨S_, .i32⟩
  | .hbm, ⟨57, _⟩ => ⟨S32, .i32⟩
  | .hbm, ⟨58, _⟩ => ⟨S1x32, .i32⟩
  | .hbm, ⟨59, _⟩ => ⟨S65536x32, .i32⟩
  | .hbm, ⟨60, _⟩ => ⟨S65536x32, .i32⟩
  | .hbm, ⟨61, _⟩ => ⟨S65536x32, .i1⟩
  | .hbm, ⟨62, _⟩ => ⟨S65536x32, .i32⟩
  | .hbm, ⟨63, _⟩ => ⟨S_, .i32⟩
  | .hbm, ⟨64, _⟩ => ⟨S65536, .i32⟩
  | .hbm, ⟨65, _⟩ => ⟨S32x3072x2816, .bf16⟩
  | .hbm, ⟨66, _⟩ => ⟨S_, .i32⟩
  | .hbm, ⟨67, _⟩ => ⟨S65536, .i32⟩
  | .hbm, ⟨68, _⟩ => ⟨S65536, .i1⟩
  | .hbm, ⟨69, _⟩ => ⟨S_, .i32⟩
  | .hbm, ⟨70, _⟩ => ⟨S65536, .i32⟩
  | .hbm, ⟨71, _⟩ => ⟨S65536, .i32⟩
  | .hbm, ⟨72, _⟩ => ⟨S65536, .i32⟩
  | .hbm, ⟨73, _⟩ => ⟨S65536x1, .i32⟩
  | .hbm, ⟨74, _⟩ => ⟨S65536x3072x2816, .bf16⟩
  | .hbm, ⟨75, _⟩ => ⟨S65536x2816, .f32⟩
  | .hbm, ⟨76, _⟩ => ⟨S_, .i32⟩
  | .hbm, ⟨77, _⟩ => ⟨S65536, .i32⟩
  | .hbm, ⟨78, _⟩ => ⟨S65536, .i1⟩
  | .hbm, ⟨79, _⟩ => ⟨S_, .i32⟩
  | .hbm, ⟨80, _⟩ => ⟨S65536, .i32⟩
  | .hbm, ⟨81, _⟩ => ⟨S65536, .i32⟩
  | .hbm, ⟨82, _⟩ => ⟨S65536, .i32⟩
  | .hbm, ⟨83, _⟩ => ⟨S65536x1, .i32⟩
  | .hbm, ⟨84, _⟩ => ⟨S65536x2816, .f32⟩
  | .hbm, ⟨85, _⟩ => ⟨S65536x2816, .f32⟩
  | .hbm, ⟨86, _⟩ => ⟨S65536x2816, .bf16⟩
  | .local _ .vmem, ⟨0, _⟩ => ⟨S32x2816x3072, .fp8e4m3⟩
  | .local _ .vmem, ⟨1, _⟩ => ⟨S65536x3072, .f32⟩
  | .local _ .vmem, ⟨2, _⟩ => ⟨S32x2816x3072, .bf16⟩
  | .local _ .vmem, ⟨3, _⟩ => ⟨S65536x3072, .bf16⟩
  | _, _ => ⟨S65536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_call0_c : Ref sig .tc := ⟨.hbm, 55, rfl⟩
abbrev main_call2_call0_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x2816x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2816x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S65536x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Body.lean ====
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.Kernel.Gen

variable {F : FTy → Type} [FloatOps F]

local notation "𝕄" => MT nD τ sig Unit (Elt F) ℕ (UR sig nD τ) ℕ

abbrev tbM0 : Memref sig .tc .smem S160 .i32 := Memref.whole main_v50
abbrev tbM1 : Memref sig .tc .smem S160 .i32 := Memref.whole main_v33
abbrev tbM2 : Memref sig .tc .smem S160 .i32 := Memref.whole main_v63
abbrev tbM3 : Memref sig .tc .smem S160 .i32 := Memref.whole main_v76
abbrev tbM4 : Memref sig .tc .smem S160 .i32 := Memref.whole main_v80
abbrev scM : Memref sig .tc .vmem S512x3072 .bf16 := Memref.whole cc0_scratch0

abbrev MBuf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : MBuf (F := F) c M) : sProp 𝕄 :=
  M.view.loc (c : Thread nD τ) ↦{fullShare.right} f
abbrev scPt (c : Dev nD) {S : Shape} {e : EltTy} (M : Memref sig .tc .vmem S e) (f : MBuf (F := F) c M) : sProp 𝕄 :=
  M.view.loc (c : Thread nD τ) ↦{fullShare} f

set_option maxHeartbeats 1000000 in
theorem kernelRun (c : Dev nD) (i : grid0.Coords)
    (arg6 : Memref sig .tc .vmem S512x3072 .bf16) (harg6 : arg6.IsWhole) (arg7 : Memref sig .tc .vmem S1x2816x3072 .fp8e4m3) (harg7 : arg7.IsWhole)
    (arg8 : Memref sig .tc .vmem S1x1x2816 .f32) (harg8 : arg8.IsWhole) (arg9 : Memref sig .tc .vmem S512x2816 .bf16) (harg9 : arg9.IsWhole)
    (x6 : Vec F S512x3072 .bf16) (x7 : Vec F S1x2816x3072 .fp8e4m3) (x8 : Vec F S1x1x2816 .f32) (x9 : Vec F S512x2816 .bf16)
    (t0 : MBuf (F := F) c tbM0) (t1 : MBuf (F := F) c tbM1) (t2 : MBuf (F := F) c tbM2) (t3 : MBuf (F := F) c tbM3) (t4 : MBuf (F := F) c tbM4)
    (arg10 : Memref sig .tc .vmem S512x3072 .bf16) (harg10 : arg10.IsWhole) (s : Vec F S512x3072 .bf16) :
      ∀ (W : Waits sig Unit) (K : PUnit → sProp 𝕄),
        iprop(owns (c : Thread nD τ) arg6 fullShare x6 ∗ owns (c : Thread nD τ) arg7 fullShare x7 ∗ owns (c : Thread nD τ) arg8 fullShare x8
            ∗ owns (c : Thread nD τ) arg9 fullShare x9
            ∗ tbPt c tbM0 t0 ∗ tbPt c tbM1 t1 ∗ tbPt c tbM2 t2 ∗ tbPt c tbM3 t3 ∗ tbPt c tbM4 t4
            ∗ owns (c : Thread nD τ) arg10 fullShare s ∗ owes (c : Thread nD τ) 0 W
            ∗ (iprop(owns (c : Thread nD τ) arg6 fullShare x6 ∗ owns (c : Thread nD τ) arg7 fullShare x7 ∗ owns (c : Thread nD τ) arg8 fullShare x8
            ∗ (∃ x, owns (c : Thread nD τ) arg9 fullShare x)
            ∗ tbPt c tbM0 t0 ∗ tbPt c tbM1 t1 ∗ tbPt c tbM2 t2 ∗ tbPt c tbM3 t3 ∗ tbPt c tbM4 t4
            ∗ (∃ s', owns (c : Thread nD τ) arg10 fullShare s') ∗ (∃ W', owes (c : Thread nD τ) 0 W')) -∗ K ⟨⟩))
          ⊢ wp frame (wpE (defs₀ (F := F)) Variants.none c none) Set.univ (cc0_grouped_dgrad i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K := by
    intro W K
    simp only [cc0_grouped_dgrad_eq_skeleton]; unfold cc0_grouped_dgrad_skel
    unfold owns
    iintro ⟨⟨%f6, %hf6, H6⟩, ⟨%f7, %hf7, H7⟩, ⟨%f8, %hf8, H8⟩, ⟨%f9, %hf9, H9⟩, HT0, HT1, HT2, HT3, HT4, ⟨%f10, %hf10, HS⟩, HW, Hk⟩
    obtain rfl := harg6.eq_unread hf6
    obtain rfl := harg7.eq_unread hf7
    obtain rfl := harg8.eq_unread hf8
    obtain rfl := harg9.eq_unread hf9
    obtain rfl := harg10.eq_unread hf10
    sl_exec
    split
    · sl_exec
      split
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
    · sl_exec
      split
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW

end Cert.Kernel.Hand
end
-- ==== Proof.Kernel.Base.lean ====
module

public import proofs.«01_k».proof.Proof.Kernel.Body
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- The host operations before the kernel, stretch by stretch. -/
abbrev hostStretches : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18]

/-- Core `c`'s buffers when the kernel starts: what the host operations leave of the launch memory. -/
def V (c : Dev nD) (b : Ref sig .tc) : Buf (Elt F) ((c : Thread nD τ).loc b) :=
  StableHlo.after (hostStretches (F := F)).flatten (fun b => m (c, b)) b

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostStretches
    (by
      simp only [List.Forall]
      exact ⟨hostOps0_sub, hostOps0_1_sub, hostOps0_2_sub, hostOps0_3_sub, hostOps0_4_sub, hostOps0_5_sub, hostOps0_6_sub, hostOps0_7_sub,
        hostOps0_8_sub, hostOps0_9_sub, hostOps0_10_sub, hostOps0_11_sub, hostOps0_12_sub, hostOps0_13_sub, hostOps0_14_sub, hostOps0_15_sub,
        hostOps0_16_sub, hostOps0_17_sub, hostOps0_18_sub⟩)
    (by simp only [List.Forall]; repeat' constructor)
    main_chain

/-- No host operation writes an argument array: the kernel finds each as launched. -/
theorem V_arg (c : Dev nD) (b : Ref sig .tc)
    (hb : b = main_arg0 ∨ b = main_arg1 ∨ b = main_arg2 ∨ b = main_arg3) : V m c b = m ((c : Thread nD τ).loc b) := by
  unfold V
  refine StableHlo.after_of_forall_not_mem (b := Proc.devRef .tc b) _ _ (List.forall_iff_forall_mem.mp ?_)
  rcases hb with rfl | rfl | rfl | rfl
  all_goals
    simp only [hostStretches, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-! ## The tables -/

/-- The five tables when the kernel starts (the program runs on one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' half shares the kernel holds, one by one. -/
theorem PhiT0_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4)) := by
  unfold Pipeline.ΦT Pipeline.prefHeld
  rw [bigSep_univ_eq_bigSepL [(0 : Fin 5), 1, 2, 3, 4] (by decide) (by decide)]
  rfl

/-! ## The staged blocks -/

/-- Window `w`'s block at point `t`, read off its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0_0 (hO : Ok m) (t : Fin (cfgM m hO).N) : Memref sig .tc .vmem S512x3072 .bf16 := spec0_0.stage ((cfgM m hO).slots t 0)
abbrev ms0_1 (hO : Ok m) (t : Fin (cfgM m hO).N) : Memref sig .tc .vmem S1x2816x3072 .fp8e4m3 := spec0_1.stage ((cfgM m hO).slots t 1)
abbrev ms0_2 (hO : Ok m) (t : Fin (cfgM m hO).N) : Memref sig .tc .vmem S1x1x2816 .f32 := spec0_2.stage ((cfgM m hO).slots t 2)
abbrev ms0_3 (hO : Ok m) (t : Fin (cfgM m hO).N) : Memref sig .tc .vmem S512x2816 .bf16 := spec0_3.stage ((cfgM m hO).slots t 3)

/-- The kernel body at point `t`, on what the pipeline calls it with. -/
abbrev bodyAt0 (a : (pcfg0 (F := F)).Adm) (t : Fin (cfg0 a).N) : Prog (TpuEff nD τ sig (Elt F) Λ₀ .tc) PUnit :=
  cc0_grouped_dgrad (grid0.coords t) tbM0 (Memref.isWhole_whole _) tbM1 (Memref.isWhole_whole _) tbM2 (Memref.isWhole_whole _) tbM3 (Memref.isWhole_whole _) tbM4 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    scM (Memref.isWhole_whole _)

/-- The body table's row at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-! ## The scratch -/

/-- The scratch as a whole buffer and as an owned memref are the same assertion. -/
theorem scOwns_eq (c : Dev nD) (x : Vec F S512x3072 .bf16) :
    (owns (c : Thread nD τ) scM fullShare x : sProp 𝕄) = (((c : Thread nD τ).loc cc0_scratch0) ↦{fullShare} x) :=
  owns_whole _ _ _ _

theorem scratch_any (c : Dev nD) :
    (Pipeline.scopedRest (Ix := Unit) (Name := ℕ) (U := UR sig nD τ) (Lvl := ℕ) (Val := Elt F) spec0 c : sProp 𝕄)
      = iprop(∃ x, owns (c : Thread nD τ) scM fullShare x) := by
  rw [scopedRest0_eq]
  simp only [scOwns_eq]
  rfl

end Cert.Kernel.Hand

end
-- ==== Proof.Kernel.Frame.lean ====
module

public import proofs.«01_k».proof.Proof.Kernel.Base
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data, the output's contents left unnamed -/

/-- The output window, whose contents this part does not name. -/
def forgets0 : Fin 4 → Bool := fun w => w.val == 3

/-- The proof data: the arrays as the kernel finds them, each input's buffer at its block after the body, the output unnamed;
    the scratch at any contents. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    after0_0, after0_1, after0_2]
  rw [show (dats m hO 0 c).Φ t.castSucc = iprop((Pipeline.scopedRest spec0 c ∗ ∃ r, prngReg c r) ∗ Pipeline.ΦT pre0 (tbl m) c) from rfl, PhiT0_eq, scratch_any]
  unfold Dat.owesAt Pipeline.owesWithin
  rw [show (dats m hO 0 c).owed t.castSucc = 0 from rfl, show (dats m hO 0 c).owed t.succ = 0 from rfl]
  iintro ⟨⟨⟨⟨%x, HS⟩, Hg⟩, HT0, HT1, HT2, HT3, HT4⟩, ⟨%W, -, HW⟩, ⟨%d0, H0⟩, ⟨%d1, H1⟩, ⟨%d2, H2⟩, ⟨%d3, H3⟩⟩
  iapply ((kernelRun c (grid0.coords t) _ _ _ _ _ _ _ _ (iblk m hO c 0 t) (iblk m hO c 1 t) (iblk m hO c 2 t) d3
    (tbl m 0) (tbl m 1) (tbl m 2) (tbl m 3) (tbl m 4) scM (Memref.isWhole_whole _) x) W _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HS]; · iexact HS
  isplitl [HW]; · iexact HW
  iintro ⟨H0, H1, H2, H3, HT0, HT1, HT2, HT3, HT4, HS, ⟨%W', HW'⟩⟩
  isplitl [HS Hg HT0 HT1 HT2 HT3 HT4]
  · isplitl [HS Hg]
    · isplitl [HS]
      · iexact HS
      iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iexact H3

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run -/

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments end as launched, off the frame run of any proof data over the arrays as the kernel finds them. -/
theorem args_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w)) (r)
    (h : Pipeline.RDat.FramePost ((Pipeline.pin pcfgs fun _ => adm m hO) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((hA c 0).trans (V_arg m c main_arg0 (by simp))),
    ((h c).2 main_arg1 (by decide : main_arg1 ∈ Pipeline.restRefs sig spec0)).trans (V_arg m c main_arg1 (by simp)),
    (Pipeline.RDat.FramePost.arr_in h c 1 rfl).trans ((hA c 1).trans (V_arg m c main_arg2 (by simp))),
    ((h c).2 main_arg3 (by decide : main_arg3 ∈ Pipeline.restRefs sig spec0)).trans (V_arg m c main_arg3 (by simp))⟩

/-- THE FRAME: the kernel's program runs, leaves its arguments as they were and every semaphore at zero, whenever the blocks
    its tables name lie inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m hO _ (A_eq m hO) r h.1, h.2⟩) (run_main_quiescent m ρ hO)

end Cert.Kernel.Hand

end
-- ==== Proof.Plan.Words.lean ====
module

public import Idealize.ShloMosaic.Lib.Routing.OpsSet
public import Idealize.ShloMosaic.Lib.Routing.Words
public import Idealize.ShloMosaic.Lib.PlanTiles.Rows

/-! The visit tables as the programs compute them, from the groups' sizes: words of 32 bits, operation by operation. -/

@[expose] public section

namespace Cert.Plan

open Idealize.ShloMosaic Idealize.ShloMosaic.Routing Idealize.ShloMosaic.ValueIdx

/-- The side conditions of the operations on shapes. -/
structure Wit : Prop where
  b00 : shape0.BroadcastsInDim shape0 ![]
  b32 : shape0.BroadcastsInDim (shape1 32) ![]
  b160 : shape0.BroadcastsInDim (shape1 160) ![]
  col : (shape1 160).BroadcastsInDim (shape2 160 1) ![0]
  cols : (shape2 160 1).BroadcastsInDim (shape2 160 32) ![0, 1]
  row : (shape1 32).BroadcastsInDim (shape2 1 32) ![1]
  rows : (shape2 1 32).BroadcastsInDim (shape2 160 32) ![0, 1]
  win : (shape1 32).ReduceWindows ![32] ![1] ![31] ![0] (shape1 32)
  hu : 0 < shape0.numel
  red : (shape2 160 32).ReducesTo [1] (shape1 160)
  red0 : (shape1 32).ReducesTo [0] shape0
  sl : (shape1 32).Slices ![31] (shape1 1)
  cast : (shape1 1).ShapeCasts shape0
  w1 : 1 < 32
  take : GatherDims.WF (shape1 32) (shape2 160 1) (shape1 160) [] [0] [] [0] [] 1 ![1]

variable (h : Wit)

/-- The dimension numbers of taking one entry of a vector for each of `160` positions. -/
def take : GatherDims (shape1 32) (shape2 160 1) (shape1 160) where
  offsetDims := []
  collapsedSliceDims := [0]
  operandBatchingDims := []
  startIndicesBatchingDims := []
  startIndexMap := [0]
  indexVectorDim := 1
  sliceSizes := ![1]
  wf := h.take

/-- One word in every group's place. -/
def c32 (v : BitVec 32) : IVec (shape1 32) 32 := broadcastInDim (shape1 32) ![] h.b32 (constantI shape0 32 v)
/-- One word in every visit's place. -/
def c160 (v : BitVec 32) : IVec (shape1 160) 32 := broadcastInDim (shape1 160) ![] h.b160 (constantI shape0 32 v)
/-- The running sums of a vector over the groups. -/
noncomputable def cumsum (x : IVec (shape1 32) 32) : IVec (shape1 32) 32 :=
  Host.reduceWindow IntOp.addi ![32] ![1] ![31] ![0] x (broadcastInDim shape0 ![] h.b00 (constantI shape0 32 0#32)) h.win h.hu

variable (gs : IVec (shape1 32) 32)

/-- The groups' ends. -/
noncomputable def ends : IVec (shape1 32) 32 := cumsum h gs
/-- The groups' starts. -/
noncomputable def starts : IVec (shape1 32) 32 := subi (ends h gs) gs
/-- The groups' first tiles. -/
noncomputable def firstTile : IVec (shape1 32) 32 := pyDiv h.b32 (starts h gs) (constantI shape0 32 512#32)
/-- The groups' last tiles. -/
noncomputable def lastTile : IVec (shape1 32) 32 := pyDiv h.b32 (subi (ends h gs) (c32 h 1#32)) (constantI shape0 32 512#32)
/-- How many tiles each group meets. -/
noncomputable def counts : IVec (shape1 32) 32 :=
  select (cmpi .sgt gs (c32 h 0#32)) (addi (subi (lastTile h gs) (firstTile h gs)) (c32 h 1#32)) (c32 h 0#32)
/-- The running sums of the counts. -/
noncomputable def visitEnds : IVec (shape1 32) 32 := cumsum h (counts h gs)
/-- The number of each group's first visit. -/
noncomputable def visitStarts : IVec (shape1 32) 32 := subi (visitEnds h gs) (counts h gs)
/-- Each visit's group, by counting the groups whose visits are over. -/
noncomputable def rawGroup : IVec (shape1 160) 32 :=
  minsi (Host.reduce IntOp.addi (extui 32 (cmpi .sge
      (broadcastInDim (shape2 160 32) ![0, 1] h.cols (broadcastInDim (shape2 160 1) ![0] h.col (iotaInDim (shape1 160) 32 0)))
      (broadcastInDim (shape2 160 32) ![0, 1] h.rows (broadcastInDim (shape2 1 32) ![1] h.row (visitEnds h gs)))) h.w1)
    (constantI shape0 32 0#32) h.red h.hu) (c160 h 31#32)
/-- Which visits there are. -/
noncomputable def isVisit : IVec (shape1 160) 1 :=
  cmpi .slt (iotaInDim (shape1 160) 32 0) (broadcastInDim (shape1 160) ![] h.b160
    (shapeCast shape0 (extractStridedSlice (shape1 1) ![31] (visitEnds h gs) h.sl) h.cast))
/-- The last group with a row. -/
noncomputable def lastGroup : IVec shape0 32 :=
  Host.reduce IntOp.maxsi (select (cmpi .sgt gs (c32 h 0#32)) (iotaInDim (shape1 32) 32 0) (c32 h 0#32))
    (constantI shape0 32 2147483648#32) h.red0 h.hu
/-- The table of groups. -/
noncomputable def groupT : IVec (shape1 160) 32 := select (isVisit h gs) (rawGroup h gs) (broadcastInDim (shape1 160) ![] h.b160 (lastGroup h gs))
/-- Each visit's entry of a vector over the groups. -/
noncomputable def pick (x : IVec (shape1 32) 32) : IVec (shape1 160) 32 :=
  Host.gather (take h) x (broadcastInDim (shape2 160 1) ![0] h.col
    (select (cmpi .slt (groupT h gs) (c160 h 0#32)) (addi (groupT h gs) (c160 h 32#32)) (groupT h gs)))
/-- The table of tiles. -/
noncomputable def tileT : IVec (shape1 160) 32 :=
  select (isVisit h gs) (subi (addi (pick h gs (firstTile h gs)) (iotaInDim (shape1 160) 32 0)) (pick h gs (visitStarts h gs))) (c160 h 127#32)
/-- The table of first rows within the tile. -/
noncomputable def loT : IVec (shape1 160) 32 :=
  select (isVisit h gs) (maxsi (subi (pick h gs (starts h gs)) (muli (tileT h gs) (c160 h 512#32))) (c160 h 0#32)) (c160 h 0#32)
/-- The table of ends within the tile. -/
noncomputable def hiT : IVec (shape1 160) 32 :=
  select (isVisit h gs) (minsi (subi (pick h gs (ends h gs)) (muli (tileT h gs) (c160 h 512#32))) (c160 h 512#32)) (c160 h 0#32)
/-- The table that marks the first visit of each tile. -/
noncomputable def firstT : IVec (shape1 160) 32 :=
  extui 32 (andi (isVisit h gs) (cmpi .eq (loT h gs) (c160 h 0#32))) h.w1

end Cert.Plan
-- ==== Proof.Kernel.Tables.lean ====
module

public import proofs.«01_k».proof.Proof.Kernel.Base
public import proofs.«01_k».proof.Proof.Plan.Words
public import Idealize.ShloMosaic.Lib.StableHlo.ReadAt

/-! What the host operations leave in the five tables and in the array of scales. -/

@[expose] public section

set_option maxRecDepth 16384

noncomputable section

namespace Cert.Kernel.Hand

open Idealize.ShloMosaic Idealize.ShloMosaic.TcCoe
open Cert.Kernel.Gen

variable {F : FTy → Type} [FloatOps F]
variable (m : (ℓ : Loc nD τ sig) → Buf (Elt F) ℓ)

/-- The program's side conditions are those of the tables. -/
theorem wit : Plan.Wit where
  b00 := bcast_S_S_
  b32 := bcast_S_S32
  b160 := bcast_S_S160
  col := bcast_S160_S160x1_0
  cols := bcast_S160x1_S160x32_0_1
  row := bcast_S32_S1x32_1
  rows := bcast_S1x32_S160x32_0_1
  win := reduceWindows_S32_S32_w32s1p31_0
  hu := h_S_
  red := reducesTo_S160x32_S160_d1
  red0 := reducesTo_S32_S_d0
  sl := slices_S32_S1_31
  cast := shapeCasts_S1_S_
  w1 := natLt_1_32
  take := gather_S32_S160x1_S160_n_0_n_n_0_1_1_wf

/-- The groups' sizes, as launched on core `c`. -/
abbrev sizes (c : Dev nD) : IVec S32 32 := m ((c : Thread nD τ).loc main_arg1)

set_option maxHeartbeats 4000000 in
theorem V_tile (c : Dev nD) : V m c main_v50 = Plan.tileT wit (sizes m c) := by
  unfold V
  after_reads_simp
  simp -implicitDefEqProofs only [StableHlo.TRef.toBuf, StableHlo.TRef.ofBuf, cast_cast, cast_eq]
  unfold Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_group (c : Dev nD) : V m c main_v33 = Plan.groupT wit (sizes m c) := by
  unfold V
  after_reads_simp
  simp -implicitDefEqProofs only [StableHlo.TRef.toBuf, StableHlo.TRef.ofBuf, cast_cast, cast_eq]
  unfold Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_lo (c : Dev nD) : V m c main_v63 = Plan.loT wit (sizes m c) := by
  unfold V
  after_reads_simp
  simp -implicitDefEqProofs only [StableHlo.TRef.toBuf, StableHlo.TRef.ofBuf, cast_cast, cast_eq]
  unfold Plan.loT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_hi (c : Dev nD) : V m c main_v76 = Plan.hiT wit (sizes m c) := by
  unfold V
  after_reads_simp
  simp -implicitDefEqProofs only [StableHlo.TRef.toBuf, StableHlo.TRef.ofBuf, cast_cast, cast_eq]
  unfold Plan.hiT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_first (c : Dev nD) : V m c main_v80 = Plan.firstT wit (sizes m c) := by
  unfold V
  after_reads_simp
  simp -implicitDefEqProofs only [StableHlo.TRef.toBuf, StableHlo.TRef.ofBuf, cast_cast, cast_eq]
  unfold Plan.firstT Plan.loT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

/-- The array of scales as the kernel reads it. -/
theorem V_scale (c : Dev nD) : V m c main_v81 = shapeCast S32x1x2816 (m ((c : Thread nD τ).loc main_arg3) : Vec F S32x2816 .f32) shapeCasts_S32x2816_S32x1x2816 := by
  unfold V
  after_reads_simp
  rfl

end Cert.Kernel.Hand

end
-- ==== Proof.Plan.Model.lean ====
module

public import Idealize.ShloMosaic.Lib.Routing.Count

/-! The visits of a grouped product, over the natural numbers.

`65536` rows are assigned, in order, to `32` groups of sizes `s 0, …, s 31`; rows come in tiles of `512`.  A visit is a pair of a
tile and a group that share a row, the visits ordered by group and then by tile.  This module states which tile, which group and
which rows the `i`-th visit has, and proves that the visits go through all the rows exactly once, in order. -/

@[expose] public section

namespace Cert.Plan

open Idealize.ShloMosaic.Routing

/-- The sum of the first `e` values. -/
def pre (f : ℕ → ℕ) (e : ℕ) : ℕ := ((List.range e).map f).sum

theorem pre_zero (f : ℕ → ℕ) : pre f 0 = 0 := rfl
theorem pre_succ (f : ℕ → ℕ) (e : ℕ) : pre f (e + 1) = pre f e + f e := by
  unfold pre; rw [List.range_succ, List.map_append, List.sum_append]; simp
theorem pre_mono (f : ℕ → ℕ) {a b : ℕ} (h : a ≤ b) : pre f a ≤ pre f b := by
  induction b, h using Nat.le_induction with
  | base => exact le_rfl
  | succ b _ ih => rw [pre_succ]; omega

variable (s : ℕ → ℕ)

/-- How many tiles group `e` meets. -/
def cnt (e : ℕ) : ℕ := if 0 < s e then (pre s (e + 1) - 1) / 512 - pre s e / 512 + 1 else 0

/-- The number of visits. -/
def nv : ℕ := pre (cnt s) 32
/-- The group of visit `i`. -/
def ex (i : ℕ) : ℕ := min (Nat.count (fun e => pre (cnt s) (e + 1) ≤ i) 32) 31
/-- The tile of visit `i`; past the last visit, the last tile. -/
def tl (i : ℕ) : ℕ := if i < nv s then pre s (ex s i) / 512 + (i - pre (cnt s) (ex s i)) else 127
/-- The first row of visit `i`. -/
def gg (i : ℕ) : ℕ := max (pre s (ex s i)) (tl s i * 512)
/-- One past the last row of visit `i`; past the last visit, all the rows. -/
def hh (i : ℕ) : ℕ := if i < nv s then min (pre s (ex s i + 1)) ((tl s i + 1) * 512) else 65536

/-- Groups that meet no tile have no row. -/
theorem pre_eq_of_cnt (a d : ℕ) (h : pre (cnt s) (a + d) = pre (cnt s) a) : pre s (a + d) = pre s a := by
  induction d with
  | zero => rfl
  | succ d ih =>
    have h1 := pre_mono (cnt s) (Nat.le_add_right a d)
    rw [← Nat.add_assoc, pre_succ] at h ⊢
    have h2 : cnt s (a + d) = 0 := by omega
    have h3 : s (a + d) = 0 := by
      unfold cnt at h2; split at h2 <;> omega
    rw [h3, ih (by omega)]; rfl

/-- A group's visits are among all the visits: the sum of the first counts. -/
theorem nv_le_aux (e : ℕ) : pre (cnt s) e ≤ (pre s e + 511) / 512 + e := by
  induction e with
  | zero => simp [pre_zero]
  | succ e ih =>
    rw [pre_succ]
    have hp := pre_succ s e
    have hcnt : cnt s e = if 0 < s e then (pre s (e + 1) - 1) / 512 - pre s e / 512 + 1 else 0 := rfl
    split at hcnt <;> omega

section
variable (hN : pre s 32 = 65536)
include hN

theorem nv_le : nv s ≤ 160 := by
  have := nv_le_aux s 32
  unfold nv; omega

theorem nv_pos : 0 < nv s := by
  rcases Nat.eq_zero_or_pos (nv s) with h | h
  · have h0 := pre_eq_of_cnt s 0 32 (by rw [Nat.zero_add]; exact h)
    rw [Nat.zero_add, pre_zero] at h0; omega
  · exact h

omit hN in
/-- The group of a visit: the one whose visits contain it. -/
theorem ex_spec {i : ℕ} (hi : i < nv s) : ex s i < 32 ∧ pre (cnt s) (ex s i) ≤ i ∧ i < pre (cnt s) (ex s i + 1) := by
  have hc : ∀ e, e < 32 → (pre (cnt s) (e + 1) ≤ i ↔ e < Nat.count (fun e => pre (cnt s) (e + 1) ≤ i) 32) := fun e he =>
    lt_count_iff (fun a b hab _ hb => le_trans (pre_mono (cnt s) (Nat.succ_le_succ hab)) hb) he
  have h31 : ¬ 31 < Nat.count (fun e => pre (cnt s) (e + 1) ≤ i) 32 := fun h => by
    have : pre (cnt s) 32 ≤ i := (hc 31 (by omega)).2 h
    unfold nv at hi; omega
  have he : ex s i = Nat.count (fun e => pre (cnt s) (e + 1) ≤ i) 32 := by unfold ex; omega
  refine ⟨by unfold ex; omega, ?_, ?_⟩
  · rcases Nat.eq_zero_or_pos (ex s i) with h | h
    · rw [h]; simp [pre_zero]
    · have := (hc (ex s i - 1) (by omega)).2 (by omega)
      rwa [Nat.sub_add_cancel h] at this
  · by_contra hcon
    have := (hc (ex s i) (by unfold ex; omega)).1 (by omega)
    omega

omit hN in
/-- A visit's group has a row, and its tile is one of those the group meets. -/
theorem tl_spec {i : ℕ} (hi : i < nv s) : 0 < s (ex s i) ∧ tl s i = pre s (ex s i) / 512 + (i - pre (cnt s) (ex s i))
    ∧ tl s i ≤ (pre s (ex s i + 1) - 1) / 512 := by
  obtain ⟨h1, h2, h3⟩ := ex_spec s hi
  have ht : tl s i = pre s (ex s i) / 512 + (i - pre (cnt s) (ex s i)) := if_pos hi
  rw [pre_succ] at h3
  have hp := pre_succ s (ex s i)
  have hcnt : cnt s (ex s i) = if 0 < s (ex s i) then (pre s (ex s i + 1) - 1) / 512 - pre s (ex s i) / 512 + 1 else 0 := rfl
  split at hcnt
  · refine ⟨by assumption, ht, ?_⟩
    rw [ht]
    have := Nat.div_le_div_right (c := 512) (show pre s (ex s i) ≤ pre s (ex s i + 1) - 1 by omega)
    omega
  · omega

theorem tl_le (i : ℕ) : tl s i ≤ 127 := by
  by_cases hi : i < nv s
  · obtain ⟨h1, h2, h3⟩ := tl_spec s hi
    have := (ex_spec s hi).1
    have := pre_mono s (show ex s i + 1 ≤ 32 by omega)
    omega
  · exact le_of_eq (if_neg hi)

omit hN in
theorem gg_lt_hh {i : ℕ} (hi : i < nv s) : gg s i < hh s i ∧ gg s i / 512 = tl s i ∧ (hh s i - 1) / 512 = tl s i
    ∧ pre s (ex s i) ≤ gg s i ∧ hh s i ≤ pre s (ex s i + 1) ∧ hh s i ≤ (tl s i + 1) * 512 ∧ tl s i * 512 ≤ gg s i := by
  obtain ⟨h1, h2, h3⟩ := tl_spec s hi
  have hp := pre_succ s (ex s i)
  have hh' : hh s i = min (pre s (ex s i + 1)) ((tl s i + 1) * 512) := if_pos hi
  have hg : gg s i = max (pre s (ex s i)) (tl s i * 512) := rfl
  have : pre s (ex s i) / 512 ≤ tl s i := by omega
  refine ⟨?_, ?_, ?_, ?_, ?_, ?_, ?_⟩ <;> omega

/-- The first visit begins at row `0`. -/
theorem gg_zero : gg s 0 = 0 := by
  have h0 := nv_pos s hN
  obtain ⟨h1, h2, h3⟩ := ex_spec s h0
  have := pre_eq_of_cnt s 0 (ex s 0) (by rw [Nat.zero_add, pre_zero]; omega)
  rw [Nat.zero_add, pre_zero] at this
  have ht := (tl_spec s h0).2.1
  unfold gg; rw [ht, this]; simp

omit hN in
/-- Each visit begins where the one before it ended. -/
theorem gg_succ {i : ℕ} (hi : i + 1 < nv s) : gg s (i + 1) = hh s i := by
  have hi0 : i < nv s := by omega
  obtain ⟨a1, a2, a3⟩ := ex_spec s hi0
  obtain ⟨b1, b2, b3⟩ := ex_spec s hi
  obtain ⟨t1, t2, t3⟩ := tl_spec s hi0
  obtain ⟨u1, u2, u3⟩ := tl_spec s hi
  have hh' : hh s i = min (pre s (ex s i + 1)) ((tl s i + 1) * 512) := if_pos hi0
  have hg : gg s (i + 1) = max (pre s (ex s (i + 1))) (tl s (i + 1) * 512) := rfl
  rcases Nat.lt_trichotomy (ex s (i + 1)) (ex s i) with h | h | h
  · have := pre_mono (cnt s) (show ex s (i + 1) + 1 ≤ ex s i by omega)
    omega
  · rw [h] at b2 b3 u2 u3 hg
    omega
  · have hm := pre_mono (cnt s) (show ex s i + 1 ≤ ex s (i + 1) by omega)
    have he : pre (cnt s) (ex s (i + 1)) = pre (cnt s) (ex s i + 1) := by omega
    obtain ⟨d, hd⟩ : ∃ d, ex s (i + 1) = ex s i + 1 + d := ⟨ex s (i + 1) - (ex s i + 1), by omega⟩
    have hs : pre s (ex s (i + 1)) = pre s (ex s i + 1) := by
      rw [hd]; exact pre_eq_of_cnt s _ _ (by rw [← hd]; exact he)
    have hc := pre_succ (cnt s) (ex s i)
    have hcnt : cnt s (ex s i) = (pre s (ex s i + 1) - 1) / 512 - pre s (ex s i) / 512 + 1 := if_pos t1
    have hp := pre_succ s (ex s i)
    rw [hs] at hg u2
    rw [he] at u2 b2
    omega

/-- The last visit ends with the last row. -/
theorem hh_last {i : ℕ} (hi : i + 1 = nv s) : hh s i = 65536 ∧ tl s i = 127 := by
  have hi0 : i < nv s := by omega
  obtain ⟨a1, a2, a3⟩ := ex_spec s hi0
  obtain ⟨t1, t2, t3⟩ := tl_spec s hi0
  have hh' : hh s i = min (pre s (ex s i + 1)) ((tl s i + 1) * 512) := if_pos hi0
  have hm := pre_mono (cnt s) (show ex s i + 1 ≤ 32 by omega)
  have he : pre (cnt s) 32 = pre (cnt s) (ex s i + 1) := by unfold nv at hi; omega
  obtain ⟨d, hd⟩ : ∃ d, 32 = ex s i + 1 + d := ⟨32 - (ex s i + 1), by omega⟩
  have hs : pre s 32 = pre s (ex s i + 1) := by
    rw [hd]; exact pre_eq_of_cnt s _ _ (by rw [← hd]; exact he)
  have hc := pre_succ (cnt s) (ex s i)
  have hcnt : cnt s (ex s i) = (pre s (ex s i + 1) - 1) / 512 - pre s (ex s i) / 512 + 1 := if_pos t1
  have hp := pre_succ s (ex s i)
  have hn : nv s = pre (cnt s) 32 := rfl
  rw [← hs, hN] at hcnt t3 hh'
  omega

/-- From one visit to the next the tile stays or goes up by one; where it stays the rows go on within it, where it goes up the
    tile before it is finished and the next begins at its first row. -/
theorem step (i : ℕ) : (tl s (i + 1) = tl s i ∧ (i + 1 < nv s → gg s (i + 1) = hh s i) ∧ (nv s ≤ i + 1 → hh s i = 65536))
    ∨ (tl s (i + 1) = tl s i + 1 ∧ i + 1 < nv s ∧ hh s i = (tl s i + 1) * 512 ∧ gg s (i + 1) = tl s (i + 1) * 512) := by
  by_cases h : i + 1 < nv s
  · have hg := gg_succ s h
    have a := gg_lt_hh s (show i < nv s by omega)
    have b := gg_lt_hh s h
    by_cases ht : tl s (i + 1) = tl s i
    · exact Or.inl ⟨ht, fun _ => hg, fun h' => by omega⟩
    · refine Or.inr ⟨?_, h, ?_, ?_⟩ <;> omega
  · left
    have h2 : tl s (i + 1) = 127 := if_neg h
    by_cases h' : i < nv s
    · have := hh_last s hN (show i + 1 = nv s by omega)
      exact ⟨by omega, fun h'' => absurd h'' h, fun _ => this.1⟩
    · have h3 : tl s i = 127 := if_neg h'
      exact ⟨by omega, fun h'' => absurd h'' h, fun _ => if_neg h'⟩

theorem tl_zero : tl s 0 = 0 := by
  have a := gg_lt_hh s (nv_pos s hN)
  have b := gg_zero s hN
  omega

/-- The last of the `160` points is at the last tile, all rows done. -/
theorem final : tl s 159 = 127 ∧ hh s 159 = 65536 := by
  have := nv_le s hN
  rcases Nat.lt_or_ge 159 (nv s) with h | h
  · exact (hh_last s hN (show 159 + 1 = nv s by omega)).symm
  · exact ⟨if_neg (by omega), if_neg (by omega)⟩

/-- Where the tile changes after a point, or at the last point, the tile is finished. -/
theorem done_of_change {i : ℕ} (h : i = 159 ∨ tl s (i + 1) ≠ tl s i) : hh s i = (tl s i + 1) * 512 := by
  rcases h with rfl | h
  · have := final s hN; omega
  · rcases step s hN i with h' | h'
    · exact absurd h'.1 h
    · exact h'.2.2.1

/-- Every tile is the tile of a point after which it changes, or of the last point. -/
theorem exists_change {T : ℕ} (hT : T ≤ 127) : ∃ i, i < 160 ∧ tl s i = T ∧ (i = 159 ∨ tl s (i + 1) ≠ tl s i) := by
  have key : ∀ k, k ≤ 159 → T < tl s k ∨ (∃ i, i < 160 ∧ tl s i = T ∧ (i = 159 ∨ tl s (i + 1) ≠ tl s i)) ∨ tl s k ≤ T := fun k _ => by omega
  by_contra hcon
  have : ∀ k, k ≤ 159 → tl s k ≤ T := by
    intro k
    induction k with
    | zero => intro _; rw [tl_zero s hN]; omega
    | succ k ih =>
      intro hk
      have h1 := ih (by omega)
      rcases step s hN k with h | h
      · omega
      · by_contra h2
        exact hcon ⟨k, by omega, by omega, Or.inr (by omega)⟩
  have h159 := this 159 le_rfl
  have hf := (final s hN).1
  exact hcon ⟨159, by omega, by omega, Or.inl rfl⟩

end

end Cert.Plan
-- ==== Proof.Plan.Values.lean ====
module

public import proofs.«01_k».proof.Proof.Plan.Model
public import proofs.«01_k».proof.Proof.Plan.Words

/-! The tables of words hold the visits of the model. -/

@[expose] public section

namespace Cert.Plan

open Idealize.ShloMosaic Idealize.ShloMosaic.Routing Idealize.ShloMosaic.ValueIdx Idealize.ShloMosaic.WordCmp
open Idealize.ShloMosaic.PlanTiles

variable (h : Wit)

theorem c32_ap (v : BitVec 32) (i : (shape1 32).Idx) : c32 h v i = v := bc0 h.b32 _ i
theorem c160_ap (v : BitVec 32) (i : (shape1 160).Idx) : c160 h v i = v := bc0 h.b160 _ i

theorem sel_true {α : Type} (x y : α) : Scalar.select (BitVec.ofBool true) x y = x := rfl
theorem subi_at {sh : Shape} (x y : IVec sh 32) (i : sh.Idx) : subi x y i = IntOp.subi (x i) (y i) := rfl
theorem addi_at {sh : Shape} (x y : IVec sh 32) (i : sh.Idx) : addi x y i = IntOp.addi (x i) (y i) := rfl
theorem muli_at {sh : Shape} (x y : IVec sh 32) (i : sh.Idx) : muli x y i = IntOp.muli (x i) (y i) := rfl
theorem maxsi_at {sh : Shape} (x y : IVec sh 32) (i : sh.Idx) : maxsi x y i = IntOp.maxsi (x i) (y i) := rfl
theorem minsi_at {sh : Shape} (x y : IVec sh 32) (i : sh.Idx) : minsi x y i = IntOp.minsi (x i) (y i) := rfl
theorem iota_at {n : ℕ} (i : Fin n) : iotaInDim (shape1 n) 32 0 (ix1 i) = BitVec.ofNat 32 i.val := rfl
theorem sel_false {α : Type} (x y : α) : Scalar.select (BitVec.ofBool false) x y = y := rfl

/-- A difference of naturals' words, where it does not go below zero. -/
theorem sub_word {a b : ℕ} (hab : b ≤ a) : IntOp.subi (BitVec.ofNat 32 a) (BitVec.ofNat 32 b) = BitVec.ofNat 32 (a - b) := by
  obtain ⟨d, rfl⟩ : ∃ d, a = b + d := ⟨a - b, by omega⟩
  show BitVec.ofNat 32 (b + d) - BitVec.ofNat 32 b = _
  rw [BitVec.ofNat_add, Nat.add_sub_cancel_left, BitVec.add_comm, BitVec.add_sub_cancel]
/-- The same difference where it does go below zero. -/
theorem sub_word_neg {a b : ℕ} (hab : a ≤ b) : IntOp.subi (BitVec.ofNat 32 a) (BitVec.ofNat 32 b) = -BitVec.ofNat 32 (b - a) := by
  obtain ⟨d, rfl⟩ : ∃ d, b = a + d := ⟨b - a, by omega⟩
  show BitVec.ofNat 32 a - BitVec.ofNat 32 (a + d) = _
  rw [BitVec.ofNat_add, Nat.add_sub_cancel_left]
  apply BitVec.eq_of_toInt_eq
  simp only [BitVec.toInt_sub, BitVec.toInt_neg, BitVec.toInt_add]
  simp
theorem add_word (a b : ℕ) : IntOp.addi (BitVec.ofNat 32 a) (BitVec.ofNat 32 b) = BitVec.ofNat 32 (a + b) := (BitVec.ofNat_add a b).symm
theorem mul_word (a b : ℕ) : IntOp.muli (BitVec.ofNat 32 a) (BitVec.ofNat 32 b) = BitVec.ofNat 32 (a * b) := (BitVec.ofNat_mul a b).symm

/-- The larger of a difference and zero. -/
theorem max0_word {a b : ℕ} (ha : a < 2 ^ 31) (hb : b < 2 ^ 31) :
    IntOp.maxsi (IntOp.subi (BitVec.ofNat 32 a) (BitVec.ofNat 32 b)) 0#32 = BitVec.ofNat 32 (a - b) := by
  unfold IntOp.maxsi
  rcases Nat.le_total b a with hab | hab
  · rw [sub_word hab, show (0#32 : BitVec 32) = BitVec.ofNat 32 0 from rfl, slt_ofNat32 (by omega) (by omega)]
    by_cases h0 : a - b < 0
    · omega
    · simp [h0]
      intro h'
      rw [Nat.sub_eq_zero_of_le h']
  · rw [sub_word_neg hab, show (0#32 : BitVec 32) = -BitVec.ofNat 32 0 from by decide, slt_neg_ofNat32 (by omega) (by omega),
      Nat.sub_eq_zero_of_le hab]
    by_cases h0 : 0 < b - a
    · simp [h0]
    · have : b - a = 0 := by omega
      simp [this]

variable (gs : IVec (shape1 32) 32) (s : ℕ → ℕ) (hgs : ∀ i : Fin 32, gs (ix1 i) = BitVec.ofNat 32 (s i.val))
variable (hN : pre s 32 = 65536)
include hgs

theorem cumsum_ap (x : IVec (shape1 32) 32) (f : ℕ → ℕ) (hx : ∀ i : Fin 32, x (ix1 i) = BitVec.ofNat 32 (f i.val)) (i : Fin 32) :
    cumsum h x (ix1 i) = BitVec.ofNat 32 (pre f (i.val + 1)) :=
  cumsum1 (by norm_num) x f hx _ (bc0 h.b00 _ _) h.win h.hu i

theorem ends_ap (i : Fin 32) : ends h gs (ix1 i) = BitVec.ofNat 32 (pre s (i.val + 1)) := cumsum_ap h gs s hgs gs s hgs i

theorem starts_ap (i : Fin 32) : starts h gs (ix1 i) = BitVec.ofNat 32 (pre s i.val) := by
  show IntOp.subi (ends h gs (ix1 i)) (gs (ix1 i)) = _
  rw [ends_ap h gs s hgs i, hgs i, pre_succ, sub_word (by omega), Nat.add_sub_cancel]

include hN
theorem pre_le {e : ℕ} (he : e ≤ 32) : pre s e ≤ 65536 := hN ▸ pre_mono s he

theorem firstTile_ap (i : Fin 32) : firstTile h gs (ix1 i) = BitVec.ofNat 32 (pre s i.val / 512) := by
  have := pre_le gs s hgs hN (show i.val ≤ 32 by omega)
  exact pyDiv_ap h.b32 _ _ _ (starts_ap h gs s hgs i) rfl (by omega) (by norm_num) (by norm_num)

theorem counts_ap (i : Fin 32) : counts h gs (ix1 i) = BitVec.ofNat 32 (cnt s i.val) := by
  have h1 := pre_le gs s hgs hN (show i.val + 1 ≤ 32 by omega)
  have h2 := pre_succ s i.val
  unfold counts
  rw [select_at, cmpi_at, c32_ap, hgs i, show (0#32 : BitVec 32) = BitVec.ofNat 32 0 from rfl, cmpi_sgt_ofNat (by omega) (by omega)]
  unfold cnt
  by_cases h0 : 0 < s i.val
  · have hl : lastTile h gs (ix1 i) = BitVec.ofNat 32 ((pre s (i.val + 1) - 1) / 512) := by
      refine pyDiv_ap h.b32 _ _ _ (a := pre s (i.val + 1) - 1) ?_ rfl (by omega) (by norm_num) (by norm_num)
      show IntOp.subi (ends h gs (ix1 i)) (c32 h 1#32 (ix1 i)) = _
      rw [ends_ap h gs s hgs i, c32_ap, show (1#32 : BitVec 32) = BitVec.ofNat 32 1 from rfl, sub_word (by omega)]
    have ht := firstTile_ap h gs s hgs hN i
    have ha : addi (subi (lastTile h gs) (firstTile h gs)) (c32 h 1#32) (ix1 i) = BitVec.ofNat 32 ((pre s (i.val + 1) - 1) / 512 - pre s i.val / 512 + 1) := by
      show IntOp.addi (IntOp.subi (lastTile h gs (ix1 i)) (firstTile h gs (ix1 i))) (c32 h 1#32 (ix1 i)) = _
      rw [hl, ht, c32_ap, sub_word (by omega), show (1#32 : BitVec 32) = BitVec.ofNat 32 1 from rfl, add_word]
    rw [ha, decide_eq_true h0, if_pos h0]; rfl
  · rw [decide_eq_false h0, if_neg h0]
    show c32 h 0#32 (ix1 i) = _
    rw [c32_ap]

theorem visitEnds_ap (i : Fin 32) : visitEnds h gs (ix1 i) = BitVec.ofNat 32 (pre (cnt s) (i.val + 1)) :=
  cumsum_ap h gs s hgs _ _ (counts_ap h gs s hgs hN) i

theorem visitStarts_ap (i : Fin 32) : visitStarts h gs (ix1 i) = BitVec.ofNat 32 (pre (cnt s) i.val) := by
  show IntOp.subi (visitEnds h gs (ix1 i)) (counts h gs (ix1 i)) = _
  rw [visitEnds_ap h gs s hgs hN i, counts_ap h gs s hgs hN i, pre_succ, sub_word (by omega), Nat.add_sub_cancel]

theorem vis_le {e : ℕ} (he : e ≤ 32) : pre (cnt s) e ≤ 160 := le_trans (pre_mono (cnt s) he) (nv_le s hN)

theorem rawGroup_ap (i : Fin 160) : rawGroup h gs (ix1 i) = BitVec.ofNat 32 (ex s i.val) := by
  unfold rawGroup
  show IntOp.minsi _ (c160 h 31#32 (ix1 i)) = _
  rw [reduce_count (by norm_num) _ h.w1 h.red h.hu i (fun e => pre (cnt s) (e + 1) ≤ i.val) (fun q => by
    have := vis_le gs s hgs hN (show q.val + 1 ≤ 32 by omega)
    rw [cmpi_at, bcRows, bcCols, visitEnds_ap h gs s hgs hN q, iotaInDim_at]
    show IntOp.cmpi .sge (BitVec.ofNat 32 i.val) _ = 1#1 ↔ _
    rw [cmpi_sge_ofNat (by omega) (by omega), ofBool_decide_eq_one_iff]), c160_ap, show (31#32 : BitVec 32) = BitVec.ofNat 32 31 from rfl,
    minsi_word (lt_of_le_of_lt (Nat.count_le _) (by norm_num)) (by norm_num), Nat.min_comm]
  rfl

theorem isVisit_ap (i : Fin 160) : isVisit h gs (ix1 i) = BitVec.ofBool (decide (i.val < nv s)) := by
  have hn := nv_le s hN
  unfold isVisit
  rw [cmpi_at, bc0, iotaInDim_at]
  have hl : shapeCast shape0 (extractStridedSlice (shape1 1) ![31] (visitEnds h gs) h.sl) h.cast ix0 = BitVec.ofNat 32 (nv s) := by
    rw [shapeCast_apply _ h.cast ix0 (ix1 (0 : Fin 1)) (by rfl), slice1 31 _ h.sl (0 : Fin 1) (by norm_num)]
    exact visitEnds_ap h gs s hgs hN ⟨31, by norm_num⟩
  rw [hl]
  exact cmpi_slt_ofNat (by have := i.isLt; show i.val < _; omega) (by omega)

theorem lastGroup_le : (lastGroup h gs ix0).toNat ≤ 31 := by
  unfold lastGroup Host.reduce
  rw [List.filter_eq_self.2 fun n _ => decide_eq_true (funext fun a => a.elim0)]
  have key : ∀ (l : List (Fin (shape1 32).numel)) (v : BitVec 32), (v.toNat ≤ 31 ∨ (v = 2147483648#32 ∧ l ≠ [])) →
      (l.foldl (fun r n => IntOp.maxsi r (select (cmpi .sgt gs (c32 h 0#32)) (iotaInDim (shape1 32) 32 0) (c32 h 0#32) ((shape1 32).rowMajor.symm n))) v).toNat ≤ 31 := by
    intro l
    induction l with
    | nil => rintro v (hv | ⟨_, hv⟩); exacts [hv, absurd rfl hv]
    | cons n l ih =>
      intro v hv
      rw [List.foldl_cons]
      refine ih _ (Or.inl ?_)
      have hx : ∃ k : ℕ, k ≤ 31 ∧ select (cmpi .sgt gs (c32 h 0#32)) (iotaInDim (shape1 32) 32 0) (c32 h 0#32) ((shape1 32).rowMajor.symm n) = BitVec.ofNat 32 k := by
        rw [symm1, select_at, c32_ap, iotaInDim_at]
        unfold Scalar.select
        split
        · exact ⟨_, Nat.le_of_lt_succ (n.cast (numel1 32)).isLt, rfl⟩
        · exact ⟨0, by norm_num, rfl⟩
      obtain ⟨k, hk, hx⟩ := hx
      rw [hx]
      have hkn : (BitVec.ofNat 32 k).toNat = k := toNat_ofNat_of_lt (by omega)
      unfold IntOp.maxsi
      rcases hv with hv | ⟨hv, _⟩
      · split <;> omega
      · subst hv
        have hi : (2147483648#32 : BitVec 32).toInt = -2147483648 := by decide
        have hs : (BitVec.slt (2147483648#32) (BitVec.ofNat 32 k)) = true := by
          unfold BitVec.slt
          rw [hi, toInt_ofNat_of_lt (w := 32) (by omega)]
          exact decide_eq_true (by omega)
        have hs' : ¬ (BitVec.slt (BitVec.ofNat 32 k) (2147483648#32)) = true := by
          unfold BitVec.slt
          rw [hi, toInt_ofNat_of_lt (w := 32) (by omega)]
          simp only [decide_eq_true_eq]; omega
        first
          | (rw [if_pos hs]; omega)
          | (rw [if_neg hs']; omega)
  refine key _ _ (Or.inr ⟨rfl, ?_⟩)
  intro h0
  have := congrArg List.length h0
  rw [List.length_finRange, numel1] at this
  exact absurd this (by norm_num)

/-- The table of groups: a visit's group, and past the visits some group. -/
theorem groupT_ap (i : Fin 160) (hi : i.val < nv s) : groupT h gs (ix1 i) = BitVec.ofNat 32 (ex s i.val) := by
  unfold groupT
  rw [select_at, isVisit_ap h gs s hgs hN, decide_eq_true hi, sel_true]
  exact rawGroup_ap h gs s hgs hN i
theorem groupT_le (i : Fin 160) : (groupT h gs (ix1 i)).toNat ≤ 31 := by
  by_cases hi : i.val < nv s
  · have := (ex_spec s hi).1
    rw [groupT_ap h gs s hgs hN i hi, toNat_ofNat_of_lt (by omega)]; omega
  · unfold groupT
    rw [select_at, isVisit_ap h gs s hgs hN, decide_eq_false hi, sel_false, bc0]
    exact lastGroup_le h gs s hgs hN

/-- A visit's entry of a vector over the groups is its group's. -/
theorem pick_ap (x : IVec (shape1 32) 32) (i : Fin 160) (hi : i.val < nv s) : pick h gs x (ix1 i) = x (ix1 ⟨ex s i.val, (ex_spec s hi).1⟩) := by
  have he := (ex_spec s hi).1
  refine gather_take1 (take h) rfl rfl rfl rfl x _ i ⟨ex s i.val, he⟩ ?_ (by norm_num)
  rw [bcCol, select_at, cmpi_at, groupT_ap h gs s hgs hN i hi, c160_ap, show (0#32 : BitVec 32) = BitVec.ofNat 32 0 from rfl,
    cmpi_slt_ofNat (by omega) (by omega), decide_eq_false (by omega)]
  rfl

theorem tileT_ap (i : Fin 160) : tileT h gs (ix1 i) = BitVec.ofNat 32 (tl s i.val) := by
  unfold tileT
  rw [select_at, isVisit_ap h gs s hgs hN]
  by_cases hi : i.val < nv s
  · obtain ⟨h1, h2, h3⟩ := ex_spec s hi
    have e1 := pick_ap h gs s hgs hN (firstTile h gs) i hi
    have e2 := pick_ap h gs s hgs hN (visitStarts h gs) i hi
    rw [firstTile_ap h gs s hgs hN] at e1
    rw [visitStarts_ap h gs s hgs hN] at e2
    rw [decide_eq_true hi, sel_true, (tl_spec s hi).2.1]
    rw [subi_at, addi_at, iota_at, e1, e2, add_word, sub_word (by dsimp only; omega)]
    refine congrArg (BitVec.ofNat 32) ?_
    dsimp only; omega
  · rw [decide_eq_false hi, c160_ap]
    unfold tl
    rw [if_neg hi]; rfl

/-- Within its tile, a visit begins at its first row; past the visits the entry is `0`. -/
theorem loT_ap (i : Fin 160) : loT h gs (ix1 i) = BitVec.ofNat 32 (if i.val < nv s then gg s i.val - tl s i.val * 512 else 0) := by
  have ht := tl_le s hN i.val
  unfold loT
  rw [select_at, isVisit_ap h gs s hgs hN]
  by_cases hi : i.val < nv s
  · have h1 := (ex_spec s hi).1
    have hp := pre_le gs s hgs hN (show ex s i.val ≤ 32 by omega)
    have e1 := pick_ap h gs s hgs hN (starts h gs) i hi
    rw [starts_ap h gs s hgs] at e1
    rw [decide_eq_true hi, if_pos hi, sel_true]
    rw [maxsi_at, subi_at, muli_at, e1, tileT_ap h gs s hgs hN, c160_ap, c160_ap, show (512#32 : BitVec 32) = BitVec.ofNat 32 512 from rfl, mul_word,
      max0_word (by dsimp only; omega) (by omega)]
    refine congrArg (BitVec.ofNat 32) ?_
    unfold gg; dsimp only; omega
  · rw [decide_eq_false hi, sel_false, c160_ap, if_neg hi]

/-- Within its tile, a visit ends after its last row; past the visits the entry is `0`. -/
theorem hiT_ap (i : Fin 160) : hiT h gs (ix1 i) = BitVec.ofNat 32 (if i.val < nv s then hh s i.val - tl s i.val * 512 else 0) := by
  have ht := tl_le s hN i.val
  unfold hiT
  rw [select_at, isVisit_ap h gs s hgs hN]
  by_cases hi : i.val < nv s
  · have h1 := (ex_spec s hi).1
    have hp := pre_le gs s hgs hN (show ex s i.val + 1 ≤ 32 by omega)
    obtain ⟨g1, g2, g3, g4, g5, g6, g7⟩ := gg_lt_hh s hi
    have hh' : hh s i.val = min (pre s (ex s i.val + 1)) ((tl s i.val + 1) * 512) := if_pos hi
    have e1 := pick_ap h gs s hgs hN (ends h gs) i hi
    rw [ends_ap h gs s hgs] at e1
    rw [decide_eq_true hi, if_pos hi, sel_true]
    rw [minsi_at, subi_at, muli_at, e1, tileT_ap h gs s hgs hN, c160_ap, show (512#32 : BitVec 32) = BitVec.ofNat 32 512 from rfl, mul_word,
      sub_word (by dsimp only; omega), minsi_word (by dsimp only; omega) (by norm_num)]
    refine congrArg (BitVec.ofNat 32) ?_
    dsimp only; omega
  · rw [decide_eq_false hi, sel_false, c160_ap, if_neg hi]

/-- The mark of the first visit of a tile. -/
theorem firstT_ap (i : Fin 160) : firstT h gs (ix1 i) = BitVec.ofNat 32 (if i.val < nv s ∧ gg s i.val = tl s i.val * 512 then 1 else 0) := by
  have ht := tl_le s hN i.val
  unfold firstT
  show BitVec.setWidth 32 (IntOp.andi (isVisit h gs (ix1 i)) (IntOp.cmpi .eq (loT h gs (ix1 i)) (c160 h 0#32 (ix1 i)))) = _
  rw [isVisit_ap h gs s hgs hN, loT_ap h gs s hgs hN, c160_ap]
  by_cases hi : i.val < nv s
  · obtain ⟨g1, g2, g3, g4, g5, g6, g7⟩ := gg_lt_hh s hi
    rw [decide_eq_true hi, if_pos hi, show (0#32 : BitVec 32) = BitVec.ofNat 32 0 from rfl, cmpi_eq_ofNat (by omega) (by omega), andi_ofBool]
    by_cases hg : gg s i.val = tl s i.val * 512
    · rw [if_pos ⟨hi, hg⟩, decide_eq_true (by omega)]; rfl
    · rw [if_neg (fun hc => hg hc.2), decide_eq_false (by omega)]; rfl
  · rw [decide_eq_false hi, if_neg hi, if_neg (fun hc => hi hc.1), show (0#32 : BitVec 32) = BitVec.ofNat 32 0 from rfl, cmpi_eq_ofNat (by omega) (by omega), andi_ofBool]; rfl

end Cert.Plan
-- ==== Proof.Plan.Sizes.lean ====
module

public import proofs.«01_k».proof.Proof.Plan.Values
public import proofs.«01_k».proof.Pre_rows_assigned
public import proofs.«01_k».proof.Proof.Gen.Pre_rows_assigned
public import proofs.«01_k».proof.Pre_finite_rows_assigned
public import proofs.«01_k».proof.Proof.Gen.Pre_finite_rows_assigned
public import Idealize.ShloMosaic.Lib.ReduceAll
public import Idealize.ShloMosaic.Lib.Affine

/-! What the preconditions say of the groups' sizes: they are natural numbers whose sum is the number of rows. -/

@[expose] public section

namespace Cert.Plan

open Idealize.ShloMosaic Idealize.ShloMosaic.Routing Idealize.ShloMosaic.ValueIdx Idealize.ShloMosaic.WordCmp

/-- The words `gs` hold sizes `s` of all the rows. -/
structure Sized (gs : IVec (shape1 32) 32) (s : ℕ → ℕ) : Prop where
  ap : ∀ i : Fin 32, gs (ix1 i) = BitVec.ofNat 32 (s i.val)
  sum : pre s 32 = 65536

/-- A word between `0` and `65536`, signed, is one of those naturals. -/
theorem le_of_bits (x : BitVec 32) (h0 : IntOp.cmpi .sge x 0#32 = 1#1) (h1 : IntOp.cmpi .sle x 65536#32 = 1#1) : x.toNat ≤ 65536 := by
  rw [cmpi_sge_eq, ofBool_decide_eq_one_iff] at h0
  rw [cmpi_sle_eq, ofBool_decide_eq_one_iff] at h1
  have h2 : x.toNat < 2 ^ (32 - 1) := (toInt_nonneg_iff_lt_half x).1 h0
  rw [toInt_eq_toNat_of_lt_half h2] at h1
  have : (65536#32 : BitVec 32).toInt = 65536 := by decide
  omega

theorem exists_sized (gs : IVec (shape1 32) 32) (h0 : ∀ i, IntOp.cmpi .sge (gs i) 0#32 = 1#1) (h1 : ∀ i, IntOp.cmpi .sle (gs i) 65536#32 = 1#1)
    (h : (shape1 32).ReducesTo [0] shape0) (hu : 0 < shape0.numel)
    (hs : Host.reduce IntOp.addi gs (constantI shape0 32 0#32) h hu ix0 = 65536#32) : ∃ s, Sized gs s := by
  refine ⟨fun n => if hn : n < 32 then (gs (ix1 ⟨n, hn⟩)).toNat else 0, ?_, ?_⟩
  · intro i
    rw [dif_pos i.isLt, BitVec.ofNat_toNat, BitVec.setWidth_eq]
  · generalize hf : (fun n => if hn : n < 32 then (gs (ix1 ⟨n, hn⟩)).toNat else 0) = f
    have hx : ∀ i : Fin 32, gs (ix1 i) = BitVec.ofNat 32 (f i.val) := fun i => by
      rw [← hf]; dsimp only
      rw [dif_pos i.isLt, BitVec.ofNat_toNat, BitVec.setWidth_eq]
    have hle : ∀ n, f n ≤ 65536 := fun n => by
      rw [← hf]; dsimp only
      split
      · exact le_of_bits _ (h0 _) (h1 _)
      · omega
    have hb : ∀ e, pre f e ≤ e * 65536 := fun e => by
      induction e with
      | zero => simp [pre_zero]
      | succ e ih => rw [pre_succ]; have := hle e; omega
    rw [reduce_sum gs f hx h hu, show ((List.range 32).map f).sum = pre f 32 from rfl] at hs
    have h32 := hb 32
    have := congrArg BitVec.toNat hs
    rw [toNat_ofNat_of_lt (w := 32) (show pre f 32 < 2 ^ 32 by omega)] at this
    exact this

theorem sized_of_rows {F : FTy → Type} [FloatOps F] (x0 : FVec F Pre_rows_assigned.S65536x3072 .bf16) (gs : IVec (shape1 32) 32)
    (x2 : FVec F Pre_rows_assigned.S32x2816x3072 .fp8e4m3) (x3 : FVec F Pre_rows_assigned.S32x2816 .f32)
    (hp : Pre_rows_assigned.fn x0 gs x2 x3 = fun _ => 1#1) : ∃ s, Sized gs s := by
  have hp0 := congrFun hp ix0
  unfold Pre_rows_assigned.fn at hp0
  obtain ⟨ha, hb⟩ := IntOp.andi_eq_one.1 hp0
  have hall := fun i => IntOp.andi_eq_one.1 (Host.reduce_andi_all _ _ _ _ _ ha i)
  exact exists_sized gs (fun i => (hall i).1) (fun i => (hall i).2) _ _ (StableHlo.Predicate.cmpi_eq_iff.1 hb)

/-- The stronger precondition says besides that no entry of the gradient is above the largest finite value of its type. -/
theorem sized_of_finite {F : FTy → Type} [FloatOps F] (x0 : FVec F Pre_finite_rows_assigned.S65536x3072 .bf16) (gs : IVec (shape1 32) 32)
    (x2 : FVec F Pre_finite_rows_assigned.S32x2816x3072 .fp8e4m3) (x3 : FVec F Pre_finite_rows_assigned.S32x2816 .f32)
    (hp : Pre_finite_rows_assigned.fn x0 gs x2 x3 = fun _ => 1#1) : (∃ s, Sized gs s) ∧
      ∀ i, cmpf .ole (Host.absf (extf .f32 x0 Pre_finite_rows_assigned.Facts.bitsLt_bf16_f32))
        (fun _ => FloatOps.ofBits .f32 0x7F7F0000#32 : FVec F Pre_finite_rows_assigned.S65536x3072 .f32) i = 1#1 := by
  have hp0 := congrFun hp ix0
  unfold Pre_finite_rows_assigned.fn at hp0
  obtain ⟨ha, hb⟩ := IntOp.andi_eq_one.1 hp0
  obtain ⟨ha1, ha2⟩ := IntOp.andi_eq_one.1 ha
  have hall := fun i => IntOp.andi_eq_one.1 (Host.reduce_andi_all _ _ _ _ _ ha2 i)
  exact ⟨exists_sized gs (fun i => (hall i).1) (fun i => (hall i).2) _ _ (StableHlo.Predicate.cmpi_eq_iff.1 hb),
    fun i => Host.reduce_andi_all _ _ _ _ _ ha1 i⟩

end Cert.Plan
-- ==== Proof.Kernel.TablesOk.lean ====
module

public import proofs.«01_k».proof.Proof.Kernel.Tables
public import proofs.«01_k».proof.Proof.Plan.Sizes
public import Idealize.ShloMosaic.Lib.PairWhole

/-! What the tables' entries are at a grid point, and that every block they name lies inside its array. -/

@[expose] public section

set_option maxRecDepth 16384

noncomputable section

namespace Cert.Kernel.Hand

open Idealize.ShloMosaic Idealize.ShloMosaic.TcCoe Idealize.ShloMosaic.WordCmp
open Cert.Kernel.Gen

variable {F : FTy → Type} [FloatOps F]

/-- The number of a grid point. -/
abbrev gi (i : grid0.Coords) : Fin 160 := i 0

/-- The one index a table is read at, at a grid point. -/
theorem emb_gi (i : grid0.Coords) (h : 0 < (Rect.unit (s := S160) (k0_off1 i) S1.size (k0_off1_inb i)).shape.numel) :
    (Rect.unit (s := S160) (k0_off1 i) S1.size (k0_off1_inb i)).emb (Shape.Idx.first h) = ValueIdx.ix1 (gi i) := by
  funext a
  refine Fin.ext ?_
  match a with
  | ⟨0, _⟩ =>
    have h1 : (Shape.Idx.first h 0).val < 1 := (Shape.Idx.first h 0).isLt
    have h2 : k0_off1 i 0 = (gi i).val := by
      show (BitVec.ofNat 32 (i 0).val).toNat = _
      exact toNat_ofNat_of_lt (lt_trans (i 0).isLt (by decide))
    show k0_off1 i 0 + (Shape.Idx.first h 0).val * 1 = (gi i).val
    omega

theorem map0_eq (pf : pre0.Contents (Elt F)) (i : grid0.Coords) :
    cc0_transform_0 k0_off1_inb numel1_S1 pf i = ![BitVec.toNat ((pf 0 : IVec S160 32) (ValueIdx.ix1 (gi i))), 0] :=
  congrArg (fun j => ![BitVec.toNat ((pf 0 : IVec S160 32) j), 0]) (emb_gi i (lt_of_lt_of_eq Nat.zero_lt_one numel1_S1.symm))
theorem map1_eq (pf : pre0.Contents (Elt F)) (i : grid0.Coords) :
    cc0_transform_1 k0_off1_inb numel1_S1 pf i = ![BitVec.toNat ((pf 1 : IVec S160 32) (ValueIdx.ix1 (gi i))), 0, 0] :=
  congrArg (fun j => ![BitVec.toNat ((pf 1 : IVec S160 32) j), 0, 0]) (emb_gi i (lt_of_lt_of_eq Nat.zero_lt_one numel1_S1.symm))

/-- The blocks of 512 rows below the array's end are inside it, and cut no word. -/
theorem inb0 {ix : Fin 2 → ℕ} {n : ℕ} (hix : ix = ![n, 0]) (hn : n ≤ 127) : ∃ h : (∀ a, (ix a + 1) * S512x3072.size a ≤ S65536x3072.size a),
    EltTy.bits .bf16 = 32 ∨ (Rect.block (s := S65536x3072) S512x3072.size ix h).WholeWords (EltTy.packing .bf16) := by
  subst hix
  refine ⟨fun a => ?_, Or.inr (Rect.packedRows_of_rowAxis _ _ (by decide) ?_ ?_ rfl).wholeWords⟩
  · match a with
    | ⟨0, _⟩ => show (n + 1) * 512 ≤ 65536; omega
    | ⟨1, _⟩ => show (0 + 1) * 3072 ≤ 3072; omega
  · exact Dvd.dvd.mul_left (by decide) _
  · exact ⟨256, rfl⟩
theorem inb3 {ix : Fin 2 → ℕ} {n : ℕ} (hix : ix = ![n, 0]) (hn : n ≤ 127) : ∃ h : (∀ a, (ix a + 1) * S512x2816.size a ≤ S65536x2816.size a),
    EltTy.bits .bf16 = 32 ∨ (Rect.block (s := S65536x2816) S512x2816.size ix h).WholeWords (EltTy.packing .bf16) := by
  subst hix
  refine ⟨fun a => ?_, Or.inr (Rect.packedRows_of_rowAxis _ _ (by decide) ?_ ?_ rfl).wholeWords⟩
  · match a with
    | ⟨0, _⟩ => show (n + 1) * 512 ≤ 65536; omega
    | ⟨1, _⟩ => show (0 + 1) * 2816 ≤ 2816; omega
  · exact Dvd.dvd.mul_left (by decide) _
  · exact ⟨256, rfl⟩

/-- So are the blocks of one group. -/
theorem inb1 {ix : Fin 3 → ℕ} {e : ℕ} (hix : ix = ![e, 0, 0]) (he : e ≤ 31) : ∃ h : (∀ a, (ix a + 1) * S1x2816x3072.size a ≤ S32x2816x3072.size a),
    EltTy.bits .fp8e4m3 = 32 ∨ (Rect.block (s := S32x2816x3072) S1x2816x3072.size ix h).WholeWords (EltTy.packing .fp8e4m3) := by
  subst hix
  refine ⟨fun a => ?_, Or.inr (Or.inr ⟨by decide, rfl, rfl, rfl⟩)⟩
  match a with
  | ⟨0, _⟩ => show (e + 1) * 1 ≤ 32; omega
  | ⟨1, _⟩ => show (0 + 1) * 2816 ≤ 2816; omega
  | ⟨2, _⟩ => show (0 + 1) * 3072 ≤ 3072; omega
theorem inb2 {ix : Fin 3 → ℕ} {e : ℕ} (hix : ix = ![e, 0, 0]) (he : e ≤ 31) : ∃ h : (∀ a, (ix a + 1) * S1x1x2816.size a ≤ S32x1x2816.size a),
    EltTy.bits .f32 = 32 ∨ (Rect.block (s := S32x1x2816) S1x1x2816.size ix h).WholeWords (EltTy.packing .f32) := by
  subst hix
  refine ⟨fun a => ?_, Or.inl rfl⟩
  match a with
  | ⟨0, _⟩ => show (e + 1) * 1 ≤ 32; omega
  | ⟨1, _⟩ => show (0 + 1) * 1 ≤ 1; omega
  | ⟨2, _⟩ => show (0 + 1) * 2816 ≤ 2816; omega

variable (m : (ℓ : Loc nD τ sig) → Buf (Elt F) ℓ)

/-! The tables' contents, as the tables of words. -/

theorem tbl0 : (tbl m 0 : IVec S160 32) = Plan.tileT wit (sizes m 0) := V_tile m 0
theorem tbl1 : (tbl m 1 : IVec S160 32) = Plan.groupT wit (sizes m 0) := V_group m 0
theorem tbl2 : (tbl m 2 : IVec S160 32) = Plan.loT wit (sizes m 0) := V_lo m 0
theorem tbl3 : (tbl m 3 : IVec S160 32) = Plan.hiT wit (sizes m 0) := V_hi m 0
theorem tbl4 : (tbl m 4 : IVec S160 32) = Plan.firstT wit (sizes m 0) := V_first m 0

attribute [local irreducible] tbl

section
variable {s : ℕ → ℕ} (hs : Plan.Sized (sizes m 0) s)
include hs

theorem tile_nat (i : grid0.Coords) : (Plan.tileT wit (sizes m 0) (ValueIdx.ix1 (gi i))).toNat = Plan.tl s (gi i).val := by
  have ht := Plan.tl_le s hs.sum (gi i).val
  rw [Plan.tileT_ap wit (sizes m 0) s hs.ap hs.sum (gi i)]
  exact toNat_ofNat_of_lt (by omega)

/-- The blocks of the gradient and of the result at a point: the visit's tile of rows. -/
theorem map0 (i : grid0.Coords) : cc0_transform_0 k0_off1_inb numel1_S1 (tbl m) i = ![Plan.tl s (gi i).val, 0] :=
  (map0_eq (F := F) (tbl m) i).trans ((congrArg (fun v : IVec S160 32 => ![BitVec.toNat (v (ValueIdx.ix1 (gi i))), 0]) (tbl0 m)).trans
    (congrArg (fun n => ![n, 0]) (tile_nat m hs i)))
theorem map3 (i : grid0.Coords) : cc0_transform_3 k0_off1_inb numel1_S1 (tbl m) i = ![Plan.tl s (gi i).val, 0] := map0 m hs i

/-- The block of the weights and of the scales at a point: one group's, at a visit the visit's group's. -/
theorem map1 (i : grid0.Coords) : ∃ e, e ≤ 31 ∧ ((gi i).val < Plan.nv s → e = Plan.ex s (gi i).val) ∧ cc0_transform_1 k0_off1_inb numel1_S1 (tbl m) i = ![e, 0, 0] := by
  refine ⟨(Plan.groupT wit (sizes m 0) (ValueIdx.ix1 (gi i))).toNat, Plan.groupT_le wit (sizes m 0) s hs.ap hs.sum (gi i), fun hi => ?_,
    (map1_eq (F := F) (tbl m) i).trans (congrArg (fun v : IVec S160 32 => ![BitVec.toNat (v (ValueIdx.ix1 (gi i))), 0, 0]) (tbl1 m))⟩
  have := (Plan.ex_spec s hi).1
  rw [Plan.groupT_ap wit (sizes m 0) s hs.ap hs.sum (gi i) hi]
  exact toNat_ofNat_of_lt (by omega)
theorem map2 (i : grid0.Coords) : ∃ e, e ≤ 31 ∧ ((gi i).val < Plan.nv s → e = Plan.ex s (gi i).val) ∧ cc0_transform_2 k0_off1_inb numel1_S1 (tbl m) i = ![e, 0, 0] :=
  map1 m hs i

/-- Every block the tables name is inside its array. -/
theorem ok_of_sized : Ok m := by
  refine ⟨fun i => ?_, fun i => ?_, fun i => ?_, fun i => ?_⟩
  · exact inb0 (map0 m hs i) (Plan.tl_le s hs.sum (gi i).val)
  · obtain ⟨e, he, _, h1⟩ := map1 m hs i
    exact inb1 h1 he
  · obtain ⟨e, he, _, h1⟩ := map2 m hs i
    exact inb2 h1 he
  · exact inb3 (map3 m hs i) (Plan.tl_le s hs.sum (gi i).val)

end

end Cert.Kernel.Hand

end
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal.Gen

variable {F : FTy → Type} [FloatOps F]

local notation "𝕄" => MT nD τ sig Unit (Elt F) ℕ (UR sig nD τ) ℕ

abbrev tbM0 : Memref sig .tc .smem S160 .i32 := Memref.whole main_v50
abbrev tbM1 : Memref sig .tc .smem S160 .i32 := Memref.whole main_v33
abbrev tbM2 : Memref sig .tc .smem S160 .i32 := Memref.whole main_v63
abbrev tbM3 : Memref sig .tc .smem S160 .i32 := Memref.whole main_v76
abbrev tbM4 : Memref sig .tc .smem S160 .i32 := Memref.whole main_v80
abbrev scM : Memref sig .tc .vmem S512x3072 .bf16 := Memref.whole cc0_scratch0

abbrev MBuf (c : Dev nD) {sp : Space} {S : Shape} {e : EltTy} (M : Memref sig .tc sp S e) : Type := Buf (Elt F) (M.view.loc (c : Thread nD τ))
abbrev tbPt (c : Dev nD) {S : Shape} {e : EltTy} (M : Memref sig .tc .smem S e) (f : MBuf (F := F) c M) : sProp 𝕄 :=
  M.view.loc (c : Thread nD τ) ↦{fullShare.right} f
abbrev scPt (c : Dev nD) {S : Shape} {e : EltTy} (M : Memref sig .tc .vmem S e) (f : MBuf (F := F) c M) : sProp 𝕄 :=
  M.view.loc (c : Thread nD τ) ↦{fullShare} f

set_option maxHeartbeats 1000000 in
theorem kernelRun (c : Dev nD) (i : grid0.Coords)
    (arg6 : Memref sig .tc .vmem S512x3072 .bf16) (harg6 : arg6.IsWhole) (arg7 : Memref sig .tc .vmem S1x2816x3072 .fp8e4m3) (harg7 : arg7.IsWhole)
    (arg8 : Memref sig .tc .vmem S1x1x2816 .f32) (harg8 : arg8.IsWhole) (arg9 : Memref sig .tc .vmem S512x2816 .bf16) (harg9 : arg9.IsWhole)
    (x6 : Vec F S512x3072 .bf16) (x7 : Vec F S1x2816x3072 .fp8e4m3) (x8 : Vec F S1x1x2816 .f32) (x9 : Vec F S512x2816 .bf16)
    (t0 : MBuf (F := F) c tbM0) (t1 : MBuf (F := F) c tbM1) (t2 : MBuf (F := F) c tbM2) (t3 : MBuf (F := F) c tbM3) (t4 : MBuf (F := F) c tbM4)
    (arg10 : Memref sig .tc .vmem S512x3072 .bf16) (harg10 : arg10.IsWhole) (s : Vec F S512x3072 .bf16) :
      ∀ (W : Waits sig Unit) (K : PUnit → sProp 𝕄),
        iprop(owns (c : Thread nD τ) arg6 fullShare x6 ∗ owns (c : Thread nD τ) arg7 fullShare x7 ∗ owns (c : Thread nD τ) arg8 fullShare x8
            ∗ owns (c : Thread nD τ) arg9 fullShare x9
            ∗ tbPt c tbM0 t0 ∗ tbPt c tbM1 t1 ∗ tbPt c tbM2 t2 ∗ tbPt c tbM3 t3 ∗ tbPt c tbM4 t4
            ∗ owns (c : Thread nD τ) arg10 fullShare s ∗ owes (c : Thread nD τ) 0 W
            ∗ (iprop(owns (c : Thread nD τ) arg6 fullShare x6 ∗ owns (c : Thread nD τ) arg7 fullShare x7 ∗ owns (c : Thread nD τ) arg8 fullShare x8
            ∗ (∃ x, owns (c : Thread nD τ) arg9 fullShare x)
            ∗ tbPt c tbM0 t0 ∗ tbPt c tbM1 t1 ∗ tbPt c tbM2 t2 ∗ tbPt c tbM3 t3 ∗ tbPt c tbM4 t4
            ∗ (∃ s', owns (c : Thread nD τ) arg10 fullShare s') ∗ (∃ W', owes (c : Thread nD τ) 0 W')) -∗ K ⟨⟩))
          ⊢ wp frame (wpE (defs₀ (F := F)) Variants.none c none) Set.univ (cc0_grouped_dgrad i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K := by
    intro W K
    simp only [cc0_grouped_dgrad_eq_skeleton]; unfold cc0_grouped_dgrad_skel
    unfold owns
    iintro ⟨⟨%f6, %hf6, H6⟩, ⟨%f7, %hf7, H7⟩, ⟨%f8, %hf8, H8⟩, ⟨%f9, %hf9, H9⟩, HT0, HT1, HT2, HT3, HT4, ⟨%f10, %hf10, HS⟩, HW, Hk⟩
    obtain rfl := harg6.eq_unread hf6
    obtain rfl := harg7.eq_unread hf7
    obtain rfl := harg8.eq_unread hf8
    obtain rfl := harg9.eq_unread hf9
    obtain rfl := harg10.eq_unread hf10
    sl_exec
    split
    · sl_exec
      split
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
    · sl_exec
      split
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW
      · sl_exec
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9]; · iexists _, _; isplitr; swap; (· iexact H9); ipureintro; rfl
        isplitl [HT0]; · iexact HT0
        isplitl [HT1]; · iexact HT1
        isplitl [HT2]; · iexact HT2
        isplitl [HT3]; · iexact HT3
        isplitl [HT4]; · iexact HT4
        isplitl [HS]; · iexists _, _; isplitr; swap; (· iexact HS); ipureintro; rfl
        iexists _; iexact HW

end Cert.KernelIdeal.Hand
end
-- ==== Proof.KernelIdeal.Base.lean ====
module

public import proofs.«01_k».proof.Proof.KernelIdeal.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- The host operations before the kernel, stretch by stretch. -/
abbrev hostStretches : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18]

/-- Core `c`'s buffers when the kernel starts: what the host operations leave of the launch memory. -/
def V (c : Dev nD) (b : Ref sig .tc) : Buf (Elt F) ((c : Thread nD τ).loc b) :=
  StableHlo.after (hostStretches (F := F)).flatten (fun b => m (c, b)) b

theorem hmain (𝒱₀ : Variants) :
    Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostStretches
    (by
      simp only [List.Forall]
      exact ⟨hostOps0_sub, hostOps0_1_sub, hostOps0_2_sub, hostOps0_3_sub, hostOps0_4_sub, hostOps0_5_sub, hostOps0_6_sub, hostOps0_7_sub,
        hostOps0_8_sub, hostOps0_9_sub, hostOps0_10_sub, hostOps0_11_sub, hostOps0_12_sub, hostOps0_13_sub, hostOps0_14_sub, hostOps0_15_sub,
        hostOps0_16_sub, hostOps0_17_sub, hostOps0_18_sub⟩)
    (by simp only [List.Forall]; repeat' constructor)
    main_chain

/-- No host operation writes an argument array: the kernel finds each as launched. -/
theorem V_arg (c : Dev nD) (b : Ref sig .tc)
    (hb : b = main_arg0 ∨ b = main_arg1 ∨ b = main_arg2 ∨ b = main_arg3) : V m c b = m ((c : Thread nD τ).loc b) := by
  unfold V
  refine StableHlo.after_of_forall_not_mem (b := Proc.devRef .tc b) _ _ (List.forall_iff_forall_mem.mp ?_)
  rcases hb with rfl | rfl | rfl | rfl
  all_goals
    simp only [hostStretches, hostOps0, hostOps0_1, hostOps0_2, hostOps0_3, hostOps0_4, hostOps0_5, hostOps0_6, hostOps0_7, hostOps0_8, hostOps0_9,
      hostOps0_10, hostOps0_11, hostOps0_12, hostOps0_13, hostOps0_14, hostOps0_15, hostOps0_16, hostOps0_17, hostOps0_18,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)

/-! ## The tables -/

/-- The five tables when the kernel starts (the program runs on one device). -/
def tbl : pre0.Contents (Elt F) := fun j => V m (0 : Dev nD) (pre0.ref j)

theorem V_pre (c : Dev nD) (j : Fin 5) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables' half shares the kernel holds, one by one. -/
theorem PhiT0_eq (c : Dev nD) : (Pipeline.ΦT pre0 (tbl m) c : sProp 𝕄)
    = iprop(tbPt c tbM0 (tbl m 0) ∗ tbPt c tbM1 (tbl m 1) ∗ tbPt c tbM2 (tbl m 2) ∗ tbPt c tbM3 (tbl m 3) ∗ tbPt c tbM4 (tbl m 4)) := by
  unfold Pipeline.ΦT Pipeline.prefHeld
  rw [bigSep_univ_eq_bigSepL [(0 : Fin 5), 1, 2, 3, 4] (by decide) (by decide)]
  rfl

/-! ## The staged blocks -/

/-- Window `w`'s block at point `t`, read off its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`. -/
abbrev ms0_0 (hO : Ok m) (t : Fin (cfgM m hO).N) : Memref sig .tc .vmem S512x3072 .bf16 := spec0_0.stage ((cfgM m hO).slots t 0)
abbrev ms0_1 (hO : Ok m) (t : Fin (cfgM m hO).N) : Memref sig .tc .vmem S1x2816x3072 .fp8e4m3 := spec0_1.stage ((cfgM m hO).slots t 1)
abbrev ms0_2 (hO : Ok m) (t : Fin (cfgM m hO).N) : Memref sig .tc .vmem S1x1x2816 .f32 := spec0_2.stage ((cfgM m hO).slots t 2)
abbrev ms0_3 (hO : Ok m) (t : Fin (cfgM m hO).N) : Memref sig .tc .vmem S512x2816 .bf16 := spec0_3.stage ((cfgM m hO).slots t 3)

/-- The kernel body at point `t`, on what the pipeline calls it with. -/
abbrev bodyAt0 (a : (pcfg0 (F := F)).Adm) (t : Fin (cfg0 a).N) : Prog (TpuEff nD τ sig (Elt F) Λ₀ .tc) PUnit :=
  cc0_grouped_dgrad (grid0.coords t) tbM0 (Memref.isWhole_whole _) tbM1 (Memref.isWhole_whole _) tbM2 (Memref.isWhole_whole _) tbM3 (Memref.isWhole_whole _) tbM4 (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    scM (Memref.isWhole_whole _)

/-- The body table's row at point `t`'s slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-! ## The scratch -/

/-- The scratch as a whole buffer and as an owned memref are the same assertion. -/
theorem scOwns_eq (c : Dev nD) (x : Vec F S512x3072 .bf16) :
    (owns (c : Thread nD τ) scM fullShare x : sProp 𝕄) = (((c : Thread nD τ).loc cc0_scratch0) ↦{fullShare} x) :=
  owns_whole _ _ _ _

theorem scratch_any (c : Dev nD) :
    (Pipeline.scopedRest (Ix := Unit) (Name := ℕ) (U := UR sig nD τ) (Lvl := ℕ) (Val := Elt F) spec0 c : sProp 𝕄)
      = iprop(∃ x, owns (c : Thread nD τ) scM fullShare x) := by
  rw [scopedRest0_eq]
  simp only [scOwns_eq]
  rfl

end Cert.KernelIdeal.Hand

end
-- ==== Proof.KernelIdeal.Frame.lean ====
module

public import proofs.«01_k».proof.Proof.KernelIdeal.Base
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data, the output's contents left unnamed -/

/-- The output window, whose contents this part does not name. -/
def forgets0 : Fin 4 → Bool := fun w => w.val == 3

/-- The proof data: the arrays as the kernel finds them, each input's buffer at its block after the body, the output unnamed;
    the scratch at any contents. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    after0_0, after0_1, after0_2]
  rw [show (dats m hO 0 c).Φ t.castSucc = iprop((Pipeline.scopedRest spec0 c ∗ ∃ r, prngReg c r) ∗ Pipeline.ΦT pre0 (tbl m) c) from rfl, PhiT0_eq, scratch_any]
  unfold Dat.owesAt Pipeline.owesWithin
  rw [show (dats m hO 0 c).owed t.castSucc = 0 from rfl, show (dats m hO 0 c).owed t.succ = 0 from rfl]
  iintro ⟨⟨⟨⟨%x, HS⟩, Hg⟩, HT0, HT1, HT2, HT3, HT4⟩, ⟨%W, -, HW⟩, ⟨%d0, H0⟩, ⟨%d1, H1⟩, ⟨%d2, H2⟩, ⟨%d3, H3⟩⟩
  iapply ((kernelRun c (grid0.coords t) _ _ _ _ _ _ _ _ (iblk m hO c 0 t) (iblk m hO c 1 t) (iblk m hO c 2 t) d3
    (tbl m 0) (tbl m 1) (tbl m 2) (tbl m 3) (tbl m 4) scM (Memref.isWhole_whole _) x) W _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HS]; · iexact HS
  isplitl [HW]; · iexact HW
  iintro ⟨H0, H1, H2, H3, HT0, HT1, HT2, HT3, HT4, HS, ⟨%W', HW'⟩⟩
  isplitl [HS Hg HT0 HT1 HT2 HT3 HT4]
  · isplitl [HS Hg]
    · isplitl [HS]
      · iexact HS
      iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iexact H3

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run -/

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The arguments end as launched, off the frame run of any proof data over the arrays as the kernel finds them. -/
theorem args_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w)) (r)
    (h : Pipeline.RDat.FramePost ((Pipeline.pin pcfgs fun _ => adm m hO) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h c 0 rfl).trans ((hA c 0).trans (V_arg m c main_arg0 (by simp))),
    ((h c).2 main_arg1 (by decide : main_arg1 ∈ Pipeline.restRefs sig spec0)).trans (V_arg m c main_arg1 (by simp)),
    (Pipeline.RDat.FramePost.arr_in h c 1 rfl).trans ((hA c 1).trans (V_arg m c main_arg2 (by simp))),
    ((h c).2 main_arg3 (by decide : main_arg3 ∈ Pipeline.restRefs sig spec0)).trans (V_arg m c main_arg3 (by simp))⟩

/-- THE FRAME: the kernel's program runs, leaves its arguments as they were and every semaphore at zero, whenever the blocks
    its tables name lie inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of m hO _ (A_eq m hO) r h.1, h.2⟩) (run_main_quiescent m ρ hO)

end Cert.KernelIdeal.Hand

end
-- ==== Proof.KernelIdeal.Tables.lean ====
module

public import proofs.«01_k».proof.Proof.KernelIdeal.Base
public import proofs.«01_k».proof.Proof.Plan.Words
public import Idealize.ShloMosaic.Lib.StableHlo.ReadAt

/-! What the host operations leave in the five tables and in the array of scales. -/

@[expose] public section

set_option maxRecDepth 16384

noncomputable section

namespace Cert.KernelIdeal.Hand

open Idealize.ShloMosaic Idealize.ShloMosaic.TcCoe
open Cert.KernelIdeal.Gen

variable {F : FTy → Type} [FloatOps F]
variable (m : (ℓ : Loc nD τ sig) → Buf (Elt F) ℓ)

/-- The program's side conditions are those of the tables. -/
theorem wit : Plan.Wit where
  b00 := bcast_S_S_
  b32 := bcast_S_S32
  b160 := bcast_S_S160
  col := bcast_S160_S160x1_0
  cols := bcast_S160x1_S160x32_0_1
  row := bcast_S32_S1x32_1
  rows := bcast_S1x32_S160x32_0_1
  win := reduceWindows_S32_S32_w32s1p31_0
  hu := h_S_
  red := reducesTo_S160x32_S160_d1
  red0 := reducesTo_S32_S_d0
  sl := slices_S32_S1_31
  cast := shapeCasts_S1_S_
  w1 := natLt_1_32
  take := gather_S32_S160x1_S160_n_0_n_n_0_1_1_wf

/-- The groups' sizes, as launched on core `c`. -/
abbrev sizes (c : Dev nD) : IVec S32 32 := m ((c : Thread nD τ).loc main_arg1)

set_option maxHeartbeats 4000000 in
theorem V_tile (c : Dev nD) : V m c main_v50 = Plan.tileT wit (sizes m c) := by
  unfold V
  after_reads_simp
  simp -implicitDefEqProofs only [StableHlo.TRef.toBuf, StableHlo.TRef.ofBuf, cast_cast, cast_eq]
  unfold Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_group (c : Dev nD) : V m c main_v33 = Plan.groupT wit (sizes m c) := by
  unfold V
  after_reads_simp
  simp -implicitDefEqProofs only [StableHlo.TRef.toBuf, StableHlo.TRef.ofBuf, cast_cast, cast_eq]
  unfold Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_lo (c : Dev nD) : V m c main_v63 = Plan.loT wit (sizes m c) := by
  unfold V
  after_reads_simp
  simp -implicitDefEqProofs only [StableHlo.TRef.toBuf, StableHlo.TRef.ofBuf, cast_cast, cast_eq]
  unfold Plan.loT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_hi (c : Dev nD) : V m c main_v76 = Plan.hiT wit (sizes m c) := by
  unfold V
  after_reads_simp
  simp -implicitDefEqProofs only [StableHlo.TRef.toBuf, StableHlo.TRef.ofBuf, cast_cast, cast_eq]
  unfold Plan.hiT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

set_option maxHeartbeats 4000000 in
theorem V_first (c : Dev nD) : V m c main_v80 = Plan.firstT wit (sizes m c) := by
  unfold V
  after_reads_simp
  simp -implicitDefEqProofs only [StableHlo.TRef.toBuf, StableHlo.TRef.ofBuf, cast_cast, cast_eq]
  unfold Plan.firstT Plan.loT Plan.tileT Plan.pick Plan.visitStarts Plan.groupT Plan.rawGroup Plan.isVisit Plan.lastGroup Plan.visitEnds Plan.counts Plan.lastTile Plan.firstTile Plan.starts Plan.ends Plan.cumsum Plan.c32 Plan.c160 Routing.pyDiv
  rfl

/-- The array of scales as the kernel reads it. -/
theorem V_scale (c : Dev nD) : V m c main_v81 = shapeCast S32x1x2816 (m ((c : Thread nD τ).loc main_arg3) : Vec F S32x2816 .f32) shapeCasts_S32x2816_S32x1x2816 := by
  unfold V
  after_reads_simp
  rfl

end Cert.KernelIdeal.Hand

end
-- ==== Proof.KernelIdeal.TablesOk.lean ====
module

public import proofs.«01_k».proof.Proof.KernelIdeal.Tables
public import proofs.«01_k».proof.Proof.Plan.Sizes
public import Idealize.ShloMosaic.Lib.PairWhole

/-! What the tables' entries are at a grid point, and that every block they name lies inside its array. -/

@[expose] public section

set_option maxRecDepth 16384

noncomputable section

namespace Cert.KernelIdeal.Hand

open Idealize.ShloMosaic Idealize.ShloMosaic.TcCoe Idealize.ShloMosaic.WordCmp
open Cert.KernelIdeal.Gen

variable {F : FTy → Type} [FloatOps F]

/-- The number of a grid point. -/
abbrev gi (i : grid0.Coords) : Fin 160 := i 0

/-- The one index a table is read at, at a grid point. -/
theorem emb_gi (i : grid0.Coords) (h : 0 < (Rect.unit (s := S160) (k0_off1 i) S1.size (k0_off1_inb i)).shape.numel) :
    (Rect.unit (s := S160) (k0_off1 i) S1.size (k0_off1_inb i)).emb (Shape.Idx.first h) = ValueIdx.ix1 (gi i) := by
  funext a
  refine Fin.ext ?_
  match a with
  | ⟨0, _⟩ =>
    have h1 : (Shape.Idx.first h 0).val < 1 := (Shape.Idx.first h 0).isLt
    have h2 : k0_off1 i 0 = (gi i).val := by
      show (BitVec.ofNat 32 (i 0).val).toNat = _
      exact toNat_ofNat_of_lt (lt_trans (i 0).isLt (by decide))
    show k0_off1 i 0 + (Shape.Idx.first h 0).val * 1 = (gi i).val
    omega

theorem map0_eq (pf : pre0.Contents (Elt F)) (i : grid0.Coords) :
    cc0_transform_0 k0_off1_inb numel1_S1 pf i = ![BitVec.toNat ((pf 0 : IVec S160 32) (ValueIdx.ix1 (gi i))), 0] :=
  congrArg (fun j => ![BitVec.toNat ((pf 0 : IVec S160 32) j), 0]) (emb_gi i (lt_of_lt_of_eq Nat.zero_lt_one numel1_S1.symm))
theorem map1_eq (pf : pre0.Contents (Elt F)) (i : grid0.Coords) :
    cc0_transform_1 k0_off1_inb numel1_S1 pf i = ![BitVec.toNat ((pf 1 : IVec S160 32) (ValueIdx.ix1 (gi i))), 0, 0] :=
  congrArg (fun j => ![BitVec.toNat ((pf 1 : IVec S160 32) j), 0, 0]) (emb_gi i (lt_of_lt_of_eq Nat.zero_lt_one numel1_S1.symm))

/-- The blocks of 512 rows below the array's end are inside it, and cut no word. -/
theorem inb0 {ix : Fin 2 → ℕ} {n : ℕ} (hix : ix = ![n, 0]) (hn : n ≤ 127) : ∃ h : (∀ a, (ix a + 1) * S512x3072.size a ≤ S65536x3072.size a),
    EltTy.bits .bf16 = 32 ∨ (Rect.block (s := S65536x3072) S512x3072.size ix h).WholeWords (EltTy.packing .bf16) := by
  subst hix
  refine ⟨fun a => ?_, Or.inr (Rect.packedRows_of_rowAxis _ _ (by decide) ?_ ?_ rfl).wholeWords⟩
  · match a with
    | ⟨0, _⟩ => show (n + 1) * 512 ≤ 65536; omega
    | ⟨1, _⟩ => show (0 + 1) * 3072 ≤ 3072; omega
  · exact Dvd.dvd.mul_left (by decide) _
  · exact ⟨256, rfl⟩
theorem inb3 {ix : Fin 2 → ℕ} {n : ℕ} (hix : ix = ![n, 0]) (hn : n ≤ 127) : ∃ h : (∀ a, (ix a + 1) * S512x2816.size a ≤ S65536x2816.size a),
    EltTy.bits .bf16 = 32 ∨ (Rect.block (s := S65536x2816) S512x2816.size ix h).WholeWords (EltTy.packing .bf16) := by
  subst hix
  refine ⟨fun a => ?_, Or.inr (Rect.packedRows_of_rowAxis _ _ (by decide) ?_ ?_ rfl).wholeWords⟩
  · match a with
    | ⟨0, _⟩ => show (n + 1) * 512 ≤ 65536; omega
    | ⟨1, _⟩ => show (0 + 1) * 2816 ≤ 2816; omega
  · exact Dvd.dvd.mul_left (by decide) _
  · exact ⟨256, rfl⟩

/-- So are the blocks of one group. -/
theorem inb1 {ix : Fin 3 → ℕ} {e : ℕ} (hix : ix = ![e, 0, 0]) (he : e ≤ 31) : ∃ h : (∀ a, (ix a + 1) * S1x2816x3072.size a ≤ S32x2816x3072.size a),
    EltTy.bits .fp8e4m3 = 32 ∨ (Rect.block (s := S32x2816x3072) S1x2816x3072.size ix h).WholeWords (EltTy.packing .fp8e4m3) := by
  subst hix
  refine ⟨fun a => ?_, Or.inr (Or.inr ⟨by decide, rfl, rfl, rfl⟩)⟩
  match a with
  | ⟨0, _⟩ => show (e + 1) * 1 ≤ 32; omega
  | ⟨1, _⟩ => show (0 + 1) * 2816 ≤ 2816; omega
  | ⟨2, _⟩ => show (0 + 1) * 3072 ≤ 3072; omega
theorem inb2 {ix : Fin 3 → ℕ} {e : ℕ} (hix : ix = ![e, 0, 0]) (he : e ≤ 31) : ∃ h : (∀ a, (ix a + 1) * S1x1x2816.size a ≤ S32x1x2816.size a),
    EltTy.bits .f32 = 32 ∨ (Rect.block (s := S32x1x2816) S1x1x2816.size ix h).WholeWords (EltTy.packing .f32) := by
  subst hix
  refine ⟨fun a => ?_, Or.inl rfl⟩
  match a with
  | ⟨0, _⟩ => show (e + 1) * 1 ≤ 32; omega
  | ⟨1, _⟩ => show (0 + 1) * 1 ≤ 1; omega
  | ⟨2, _⟩ => show (0 + 1) * 2816 ≤ 2816; omega

variable (m : (ℓ : Loc nD τ sig) → Buf (Elt F) ℓ)

/-! The tables' contents, as the tables of words. -/

theorem tbl0 : (tbl m 0 : IVec S160 32) = Plan.tileT wit (sizes m 0) := V_tile m 0
theorem tbl1 : (tbl m 1 : IVec S160 32) = Plan.groupT wit (sizes m 0) := V_group m 0
theorem tbl2 : (tbl m 2 : IVec S160 32) = Plan.loT wit (sizes m 0) := V_lo m 0
theorem tbl3 : (tbl m 3 : IVec S160 32) = Plan.hiT wit (sizes m 0) := V_hi m 0
theorem tbl4 : (tbl m 4 : IVec S160 32) = Plan.firstT wit (sizes m 0) := V_first m 0

attribute [local irreducible] tbl

section
variable {s : ℕ → ℕ} (hs : Plan.Sized (sizes m 0) s)
include hs

theorem tile_nat (i : grid0.Coords) : (Plan.tileT wit (sizes m 0) (ValueIdx.ix1 (gi i))).toNat = Plan.tl s (gi i).val := by
  have ht := Plan.tl_le s hs.sum (gi i).val
  rw [Plan.tileT_ap wit (sizes m 0) s hs.ap hs.sum (gi i)]
  exact toNat_ofNat_of_lt (by omega)

/-- The blocks of the gradient and of the result at a point: the visit's tile of rows. -/
theorem map0 (i : grid0.Coords) : cc0_transform_0 k0_off1_inb numel1_S1 (tbl m) i = ![Plan.tl s (gi i).val, 0] :=
  (map0_eq (F := F) (tbl m) i).trans ((congrArg (fun v : IVec S160 32 => ![BitVec.toNat (v (ValueIdx.ix1 (gi i))), 0]) (tbl0 m)).trans
    (congrArg (fun n => ![n, 0]) (tile_nat m hs i)))
theorem map3 (i : grid0.Coords) : cc0_transform_3 k0_off1_inb numel1_S1 (tbl m) i = ![Plan.tl s (gi i).val, 0] := map0 m hs i

/-- The block of the weights and of the scales at a point: one group's, at a visit the visit's group's. -/
theorem map1 (i : grid0.Coords) : ∃ e, e ≤ 31 ∧ ((gi i).val < Plan.nv s → e = Plan.ex s (gi i).val) ∧ cc0_transform_1 k0_off1_inb numel1_S1 (tbl m) i = ![e, 0, 0] := by
  refine ⟨(Plan.groupT wit (sizes m 0) (ValueIdx.ix1 (gi i))).toNat, Plan.groupT_le wit (sizes m 0) s hs.ap hs.sum (gi i), fun hi => ?_,
    (map1_eq (F := F) (tbl m) i).trans (congrArg (fun v : IVec S160 32 => ![BitVec.toNat (v (ValueIdx.ix1 (gi i))), 0, 0]) (tbl1 m))⟩
  have := (Plan.ex_spec s hi).1
  rw [Plan.groupT_ap wit (sizes m 0) s hs.ap hs.sum (gi i) hi]
  exact toNat_ofNat_of_lt (by omega)
theorem map2 (i : grid0.Coords) : ∃ e, e ≤ 31 ∧ ((gi i).val < Plan.nv s → e = Plan.ex s (gi i).val) ∧ cc0_transform_2 k0_off1_inb numel1_S1 (tbl m) i = ![e, 0, 0] :=
  map1 m hs i

/-- Every block the tables name is inside its array. -/
theorem ok_of_sized : Ok m := by
  refine ⟨fun i => ?_, fun i => ?_, fun i => ?_, fun i => ?_⟩
  · exact inb0 (map0 m hs i) (Plan.tl_le s hs.sum (gi i).val)
  · obtain ⟨e, he, _, h1⟩ := map1 m hs i
    exact inb1 h1 he
  · obtain ⟨e, he, _, h1⟩ := map2 m hs i
    exact inb2 h1 he
  · exact inb3 (map3 m hs i) (Plan.tl_le s hs.sum (gi i).val)

end

end Cert.KernelIdeal.Hand

end
-- ==== Proof.Value.Scale.lean ====
module

public import Idealize.ShloMosaic.PureOps.Ideal.Laws
public import Idealize.ShloMosaic.PureOps.Reduce

/-! The quantiser's arithmetic over the extended reals: scaling by a power of two that is large enough, clipping, and scaling
    back changes nothing. -/

@[expose] public section

noncomputable section

namespace Cert.Value

open Idealize.ShloMosaic

/-- A power of two, as an extended real. -/
def two (k : ℤ) : EReal := (((2 : ℝ) ^ k : ℝ) : EReal)

/-- The largest magnitude kept by the clip. -/
theorem hiBits : Ideal.ofBits .f32 0x47600000#32 = ((57344 : ℝ) : EReal) := by
  simp only [Ideal.ofBits, Ideal.ieee]
  norm_num [BitVec.extractLsb', zpow_neg, Nat.shiftRight_eq_div_pow]
theorem loBits : Ideal.ofBits .f32 0xC7600000#32 = ((-57344 : ℝ) : EReal) := by
  simp only [Ideal.ofBits, Ideal.ieee]
  norm_num [BitVec.extractLsb', zpow_neg, Nat.shiftRight_eq_div_pow]
/-- The factor the largest magnitude of a block is scaled by: just above 1 / 57344. -/
theorem cBits : Ideal.ofBits .f32 0x37924925#32 = ((9586981 / 2 ^ 39 : ℝ) : EReal) := by
  simp only [Ideal.ofBits, Ideal.ieee]
  norm_num [BitVec.extractLsb', zpow_neg, Nat.shiftRight_eq_div_pow]
/-- The largest finite bf16. -/
theorem maxBits : Ideal.ofBits .f32 0x7F7F0000#32 = ((255 * 2 ^ 120 : ℝ) : EReal) := by
  simp only [Ideal.ofBits, Ideal.ieee]
  norm_num [BitVec.extractLsb', zpow_neg, Nat.shiftRight_eq_div_pow]
theorem negInfBits : Ideal.ofBits .f32 0xFF800000#32 = ⊥ := by
  simp only [Ideal.ofBits, Ideal.ieee]
  norm_num [BitVec.extractLsb', Nat.shiftRight_eq_div_pow]

theorem two_shift (z : ℤ) : (2 : ℝ) ^ 23 * (2 : ℝ) ^ (z - 23) = (2 : ℝ) ^ z := by
  have h : (2 : ℝ) ^ (23 : ℤ) * (2 : ℝ) ^ (z - 23) = (2 : ℝ) ^ (23 + (z - 23)) := (zpow_add₀ two_ne_zero _ _).symm
  rw [show 23 + (z - 23) = z by ring] at h
  exact h

/-- The word with exponent field `n` and no fraction is a power of two. -/
theorem fieldBits {n : ℕ} (h1 : 1 ≤ n) (h2 : n ≤ 254) : Ideal.ofBits .f32 (BitVec.ofNat 32 n <<< 23) = two (n - 127) := by
  have e1 : ((BitVec.ofNat 32 n <<< 23).extractLsb' 23 8).toNat = n := by
    simp only [BitVec.extractLsb'_toNat, BitVec.toNat_shiftLeft, BitVec.toNat_ofNat, Nat.shiftLeft_eq, Nat.shiftRight_eq_div_pow]
    omega
  have e2 : ((BitVec.ofNat 32 n <<< 23).extractLsb' 0 23).toNat = 0 := by
    simp only [BitVec.extractLsb'_toNat, BitVec.toNat_shiftLeft, BitVec.toNat_ofNat, Nat.shiftLeft_eq, Nat.shiftRight_eq_div_pow]
    omega
  have e3 : (BitVec.ofNat 32 n <<< 23).extractLsb' 31 1 = 0#1 := by
    apply BitVec.eq_of_toNat_eq
    simp only [BitVec.extractLsb'_toNat, BitVec.toNat_shiftLeft, BitVec.toNat_ofNat, Nat.shiftLeft_eq, Nat.shiftRight_eq_div_pow]
    omega
  show Ideal.ieee 8 23 _ = _
  unfold Ideal.ieee
  dsimp only
  rw [show 8 + 23 = 31 from rfl, e1, e2, e3, if_neg (by omega), if_neg (by omega), two]
  refine congrArg _ ?_
  rw [if_neg (by decide), ← two_shift (n - 127)]
  norm_num

theorem fieldBits_top : Ideal.ofBits .f32 (BitVec.ofNat 32 255 <<< 23) = ⊤ := by
  rw [show BitVec.ofNat 32 255 <<< 23 = 0x7F800000#32 by decide]
  simp only [Ideal.ofBits, Ideal.ieee]
  norm_num [BitVec.extractLsb', Nat.shiftRight_eq_div_pow]

/-- A block's largest magnitude `a`, an element `x` of it, and a power of two above `a` times the factor: scaled down, clipped
    and scaled up, the element is what it was. -/
theorem clip_scale (x a : EReal) (k : ℤ) (hx : max x (-x) ≤ a) (ha : a * ((9586981 / 2 ^ 39 : ℝ) : EReal) < two k) :
    min ((57344 : ℝ) : EReal) (max ((-57344 : ℝ) : EReal) (x * two (-k))) * two k = x := by
  have h2 : (0 : ℝ) < (2 : ℝ) ^ k := zpow_pos (by norm_num) k
  have hc : (0 : ℝ) < 9586981 / 2 ^ 39 := by norm_num
  have ha' : a ≠ ⊤ := by
    rintro rfl
    rw [EReal.top_mul_coe_of_pos hc] at ha
    exact absurd ha (not_lt.2 le_top)
  have hx1 : x ≠ ⊤ := fun h => ha' (top_le_iff.1 (le_trans (by rw [h]; exact le_max_left _ _) hx))
  have hx2 : x ≠ ⊥ := fun h => ha' (top_le_iff.1 (le_trans (by rw [h]; exact le_max_right _ _) hx))
  lift x to ℝ using ⟨hx1, hx2⟩
  have ha0 : a ≠ ⊥ := fun h => by
    rw [h] at hx
    exact absurd (le_bot_iff.1 (le_trans (le_max_left _ _) hx)) (EReal.coe_ne_bot x)
  lift a to ℝ using ⟨ha', ha0⟩
  have hxa : x ≤ a := EReal.coe_le_coe_iff.1 (le_trans (le_max_left _ _) hx)
  have hxa' : -x ≤ a := EReal.coe_le_coe_iff.1 (by rw [EReal.coe_neg]; exact le_trans (le_max_right _ _) hx)
  have hu : a * (9586981 / 2 ^ 39) < (2 : ℝ) ^ k := by
    unfold two at ha; exact_mod_cast ha
  have hinv : (2 : ℝ) ^ (-k) * (2 : ℝ) ^ k = 1 := by rw [← zpow_add₀ (by norm_num)]; simp
  have hp : (0 : ℝ) < (2 : ℝ) ^ (-k) := zpow_pos (by norm_num) _
  have hb : a * (2 : ℝ) ^ (-k) ≤ 57344 := by
    have : a * (9586981 / 2 ^ 39) * (2 : ℝ) ^ (-k) < 1 := by
      calc _ < (2 : ℝ) ^ k * (2 : ℝ) ^ (-k) := by gcongr
        _ = 1 := by rw [mul_comm]; exact hinv
    nlinarith
  have h3 : x * (2 : ℝ) ^ (-k) ≤ 57344 := le_trans (by gcongr) hb
  have h4 : -57344 ≤ x * (2 : ℝ) ^ (-k) := by
    have : (-x) * (2 : ℝ) ^ (-k) ≤ 57344 := le_trans (by gcongr) hb
    linarith
  unfold two
  rw [← EReal.coe_mul, max_eq_right (EReal.coe_le_coe_iff.2 h4), min_eq_right (EReal.coe_le_coe_iff.2 h3), ← EReal.coe_mul,
    mul_assoc, hinv, mul_one]

end Cert.Value

end
-- ==== Proof.Value.Quant.lean ====
module

public import proofs.«01_k».proof.Proof.KernelIdeal.Body
public import proofs.«01_k».proof.Proof.Value.Scale
public import Idealize.ShloMosaic.Lib.Pipeline.Value
public import Idealize.ShloMosaic.Lib.ValueIdxCore

/-! The kernel's block quantiser, over the extended reals, is the identity on finite blocks: the largest field `n` whose power of
    two is at most the scaled largest magnitude is found by comparing with all 256 of them. -/

@[expose] public section

noncomputable section

namespace Cert.Value

open Idealize.ShloMosaic Cert.KernelIdeal Cert.KernelIdeal.Gen
open Idealize.ShloMosaic.ValueIdx (ix1 ix2)

/-- Among words that are small naturals, the fold by signed maximum is one of them and at least each of them. -/
theorem fold_maxsi (k : Fin 256 → ℕ) (hk : ∀ n, k n ≤ 255) :
    ∃ f : ℕ, (∀ n, k n ≤ f) ∧ (∃ n, k n = f)
      ∧ (Finset.univ : Finset (Fin 256)).fold IntOp.maxsi 2147483648#32 (fun n => BitVec.ofNat 32 (k n)) = BitVec.ofNat 32 f := by
  have key : ∀ s : Finset (Fin 256), (s = ∅ ∧ s.fold IntOp.maxsi 2147483648#32 (fun n => BitVec.ofNat 32 (k n)) = 2147483648#32)
      ∨ ∃ f : ℕ, (∀ n ∈ s, k n ≤ f) ∧ (∃ n, k n = f)
        ∧ s.fold IntOp.maxsi 2147483648#32 (fun n => BitVec.ofNat 32 (k n)) = BitVec.ofNat 32 f := by
    intro s
    induction s using Finset.induction_on with
    | empty => exact .inl ⟨rfl, rfl⟩
    | insert a s ha ih =>
      right
      rw [Finset.fold_insert ha]
      have hint : ∀ n, n ≤ 255 → (BitVec.ofNat 32 n).toInt = n := fun n hn => by
        rw [BitVec.toInt_eq_toNat_of_lt (by rw [BitVec.toNat_ofNat]; omega), BitVec.toNat_ofNat, Nat.mod_eq_of_lt (by omega)]
      rcases ih with ⟨rfl, h⟩ | ⟨f, hf, ⟨n0, hn0⟩, h⟩
      · refine ⟨k a, by simp, ⟨a, rfl⟩, ?_⟩
        rw [h]
        unfold IntOp.maxsi
        rw [if_pos]
        rw [BitVec.slt, decide_eq_true_iff, hint _ (hk a)]
        have : (2147483648#32 : BitVec 32).toInt = -2147483648 := by decide
        rw [this]; omega
      · rw [h]
        unfold IntOp.maxsi
        have hf255 : f ≤ 255 := hn0 ▸ hk n0
        by_cases hlt : f < k a
        · refine ⟨k a, fun n hn => ?_, ⟨a, rfl⟩, ?_⟩
          · rcases Finset.mem_insert.1 hn with rfl | hn
            · exact le_rfl
            · exact le_trans (hf n hn) hlt.le
          · rw [if_pos]
            rw [BitVec.slt, decide_eq_true_iff, hint _ (hk a), hint _ hf255]; omega
        · refine ⟨f, fun n hn => ?_, ⟨n0, hn0⟩, ?_⟩
          · rcases Finset.mem_insert.1 hn with rfl | hn
            · omega
            · exact hf n hn
          · rw [if_neg]
            rw [BitVec.slt, decide_eq_true_iff, hint _ (hk a), hint _ hf255]; omega
  rcases key Finset.univ with ⟨h, -⟩ | ⟨f, hf, hn, h⟩
  · exact absurd h (Finset.univ_nonempty).ne_empty
  · exact ⟨f, fun n => hf n (Finset.mem_univ n), hn, h⟩

/-- The value whose exponent field is `n`. -/
def fieldVal (n : ℕ) : EReal := Ideal.ofBits .f32 (BitVec.ofNat 32 n <<< 23)

/-- The largest field whose value is at most `u`, with 0 read as 126: one more is a power of two above `u`. -/
theorem field_spec (u : EReal) (hu : u < two 113) :
    ∃ f : ℕ, 1 ≤ f ∧ f ≤ 239 ∧ u < two (f - 126)
      ∧ (let w := (Finset.univ : Finset (Fin 256)).fold IntOp.maxsi 2147483648#32
            (fun n => if fieldVal n.val ≤ u then BitVec.ofNat 32 n.val else 0#32);
         (if w = 0#32 then 126#32 else w) = BitVec.ofNat 32 f) := by
  classical
  obtain ⟨f, hf, ⟨n0, hn0⟩, hw⟩ := fold_maxsi (fun n => if fieldVal n.val ≤ u then n.val else 0) (fun n => by
    have := n.isLt; split <;> omega)
  have hrw : (fun n : Fin 256 => if fieldVal n.val ≤ u then BitVec.ofNat 32 n.val else 0#32)
      = fun n => BitVec.ofNat 32 (if fieldVal n.val ≤ u then n.val else 0) := by
    funext n; split <;> rfl
  rw [hrw, hw]
  have hf255 : f ≤ 255 := by have := n0.isLt; split at hn0 <;> omega
  have hmono : ∀ {a b : ℤ}, two a < two b → a < b := fun {a b} h => by
    unfold two at h
    exact (zpow_lt_zpow_iff_right₀ (by norm_num : (1 : ℝ) < 2)).1 (EReal.coe_lt_coe_iff.1 h)
  have hmono' : ∀ {a b : ℤ}, a ≤ b → two a ≤ two b := fun {a b} h =>
    EReal.coe_le_coe_iff.2 ((zpow_le_zpow_iff_right₀ (by norm_num : (1 : ℝ) < 2)).2 h)
  have hfail : ∀ n, n ≤ 255 → f < n → ¬ fieldVal n ≤ u := fun n hn hlt h => by
    have h' : (if fieldVal n ≤ u then n else 0) ≤ f := hf ⟨n, by omega⟩
    rw [if_pos h] at h'
    omega
  by_cases h0 : f = 0
  · refine ⟨126, by norm_num, by norm_num, ?_, by rw [h0]; rfl⟩
    have := hfail 1 (by norm_num) (by omega)
    rw [fieldVal, fieldBits le_rfl (by norm_num)] at this
    exact lt_of_lt_of_le (not_le.1 this) (hmono' (by norm_num))
  · have hle : fieldVal f ≤ u := by
      split at hn0
      · next h => rw [hn0] at h; exact h
      · exact absurd hn0.symm h0
    have h239 : f ≤ 239 := by
      by_contra hc
      by_cases h254 : f ≤ 254
      · rw [fieldVal, fieldBits (by omega) h254] at hle
        have := hmono (lt_of_le_of_lt hle hu)
        omega
      · rw [show f = 255 by omega, fieldVal, fieldBits_top] at hle
        exact absurd hu (not_lt.2 (le_trans le_top hle))
    refine ⟨f, by omega, h239, ?_, ?_⟩
    · have := hfail (f + 1) (by omega) (by omega)
      rw [fieldVal, fieldBits (by omega) (by omega)] at this
      have e : ((f + 1 : ℕ) : ℤ) - 127 = f - 126 := by push_cast; ring
      rw [e] at this
      exact not_le.1 this
    · refine if_neg fun h => ?_
      have := congrArg BitVec.toNat h
      rw [BitVec.toNat_ofNat, BitVec.toNat_ofNat] at this
      omega

/-- The largest magnitude of each row of a block. -/
def rowMax (x : FVec Ideal S32x128 .f32) : FVec Ideal S32 .f32 :=
  multiReduction .maximumf [1] S32 (absf x) 0xFF800000#32 reduces_S32x128_S32 (.inl rfl) rfl

theorem rowMax_eq (x : FVec Ideal S32x128 .f32) (r : Fin 32) :
    rowMax x (ix1 r) = (Finset.univ : Finset (Fin 128)).fold max ⊥ (fun c => max (x (ix2 r c)) (-(x (ix2 r c)))) := by
  unfold rowMax
  refine (Idealize.ShloMosaic.Ideal.multiReduction_maximumf_single (absf x) 0xFF800000#32 reduces_S32x128_S32 (.inl rfl) rfl (ix1 r)).trans ?_
  refine (congrArg (fun b => Finset.fold max b _ _) negInfBits).trans ?_
  refine Finset.fold_congr fun c _ => ?_
  have e : reduces_S32x128_S32.lift (ix1 r) c = ix2 r c := by
    funext a; fin_cases a <;> rfl
  show absf x (reduces_S32x128_S32.lift (ix1 r) c) = _
  rw [e]; rfl

theorem le_rowMax (x : FVec Ideal S32x128 .f32) (r : Fin 32) (c : Fin 128) :
    max (x (ix2 r c)) (-(x (ix2 r c))) ≤ rowMax x (ix1 r) := by
  rw [rowMax_eq]
  exact (Finset.le_fold_max _).2 (.inr ⟨c, Finset.mem_univ c, le_rfl⟩)

theorem rowMax_le (x : FVec Ideal S32x128 .f32) (b : EReal) (r : Fin 32)
    (h : ∀ c, max (x (ix2 r c)) (-(x (ix2 r c))) ≤ b) : rowMax x (ix1 r) ≤ b := by
  rw [rowMax_eq]
  exact (Finset.fold_max_le _).2 ⟨bot_le, fun c _ => h c⟩

/-- The chosen field of each row, from the rows' scaled largest magnitudes. -/
def fieldOf (u : FVec Ideal S32x1 .f32) : IVec S32x1 32 :=
  let v23 : IVec S1x256 32 := iota .tc S1x256 32 [1] iota_S1x256_d1_w32
  let v26 : FVec Ideal S1x256 .f32 := bitcastToFloat .f32 (shli v23 (broadcast S1x256 23#32))
  let v29 : IVec S32x256 1 := cmpf .oge (broadcastTo S32x256 u broadcasts_S32x1_S32x256) (broadcastTo S32x256 v26 broadcasts_S1x256_S32x256)
  let v31 : IVec S32x256 32 := broadcastTo S32x256 (shapeCast S1x256 v23 shapeCasts_S1x256_S1x256) broadcasts_S1x256_S32x256
  let v34 : IVec S32 32 := multiReductionI .maxsi [1] S32 (select v29 v31 (broadcast S32x256 0#32)) 2147483648#32 reduces_S32x256_S32 rfl
  let v35 : IVec S32x1 32 := shapeCast S32x1 v34 shapeCasts_S32_S32x1
  select (cmpi .eq v35 (broadcast S32x1 0#32)) (broadcast S32x1 126#32) v35

/-- Each block, scaled down by its row's power of two, clipped and scaled up. -/
def quant (x : FVec Ideal S32x128 .bf16) : FVec Ideal S32x128 .bf16 :=
  let v : FVec Ideal S32x128 .f32 := extf .f32 x bitsLt_bf16_f32
  let e : IVec S32x1 32 := fieldOf (mulf (shapeCast S32x1 (rowMax v) shapeCasts_S32_S32x1) (broadcast S32x1 (Scalar.ofBits .f32 0x37924925#32)))
  let up : FVec Ideal S32x1 .f32 := bitcastToFloat .f32 (shli (addi e (broadcast S32x1 1#32)) (broadcast S32x1 23#32))
  let down : FVec Ideal S32x1 .f32 := bitcastToFloat .f32 (shli (subi (broadcast S32x1 253#32) e) (broadcast S32x1 23#32))
  let y : FVec Ideal S32x128 .f32 := mulf v (broadcastTo S32x128 down broadcasts_S32x1_S32x128)
  let z : FVec Ideal S32x128 .f32 := minimumf (broadcast S32x128 (Scalar.ofBits .f32 0x47600000#32))
    (maximumf (broadcast S32x128 (Scalar.ofBits .f32 0xC7600000#32)) y)
  truncf .bf16 (mulf (extf .f32 (truncf .fp8e5m2 z bitsLt_fp8e5m2_f32) bitsLt_fp8e5m2_f32)
    (broadcastTo S32x128 up broadcasts_S32x1_S32x128)) bitsLt_bf16_f32

theorem sel_eq (w : BitVec 32) : Scalar.select (IntOp.cmpi .eq w 0#32) 126#32 w = if w = 0#32 then 126#32 else w := by
  show (if BitVec.ofBool (w == 0#32) = 1#1 then _ else _) = _
  by_cases h : w = 0#32
  · rw [if_pos h, h]; rfl
  · have hb : (w == 0#32) = false := beq_eq_false_iff_ne.2 h
    rw [if_neg h, hb]; rfl

theorem fieldOf_spec (u : FVec Ideal S32x1 .f32) (r : Fin 32) (hu : u (ix2 r 0) < two 113) :
    ∃ f : ℕ, 1 ≤ f ∧ f ≤ 239 ∧ u (ix2 r 0) < two (f - 126) ∧ fieldOf u (ix2 r 0) = BitVec.ofNat 32 f := by
  obtain ⟨f, h1, h2, h3, h4⟩ := field_spec _ hu
  refine ⟨f, h1, h2, h3, ?_⟩
  rw [← h4]
  unfold fieldOf
  dsimp only
  rw [ValueIdx.select_apply]
  have hv : ∀ (g : IVec S32 32), shapeCast S32x1 g shapeCasts_S32_S32x1 (ix2 r 0) = g (ix1 r) := fun g =>
    shapeCast_apply g _ _ _ (by rw [Shape.rowMajor_val_one, Shape.rowMajor_val_two]; simp)
  show Scalar.select (IntOp.cmpi .eq (shapeCast S32x1 _ shapeCasts_S32_S32x1 (ix2 r 0)) 0#32) 126#32
    (shapeCast S32x1 _ shapeCasts_S32_S32x1 (ix2 r 0)) = _
  have hred : ∀ g : IVec S32x256 32, multiReductionI .maxsi [1] S32 g 2147483648#32 reduces_S32x256_S32 rfl (ix1 r)
      = (Finset.univ : Finset (Fin 256)).fold IntOp.maxsi 2147483648#32 (fun n => g (reduces_S32x256_S32.lift (ix1 r) n)) := fun g =>
    (multiReductionI_eq_fold .maxsi g 2147483648#32 reduces_S32x256_S32 rfl (ix1 r)).trans
      (reduces_S32x256_S32.fold_filter_drop_single IntOp.maxsi 2147483648#32 g (ix1 r))
  rw [hv]
  refine (sel_eq _).trans ?_
  refine congrArg (fun w => if w = 0#32 then 126#32 else w) ((hred _).trans ?_)
  have hg : ∀ n : Fin 256, (select (cmpf .oge (broadcastTo S32x256 u broadcasts_S32x1_S32x256)
      (broadcastTo S32x256 (bitcastToFloat (F := Ideal) .f32 (shli (iota .tc S1x256 32 [1] iota_S1x256_d1_w32) (broadcast S1x256 23#32)))
        broadcasts_S1x256_S32x256))
      (broadcastTo S32x256 (shapeCast S1x256 (iota .tc S1x256 32 [1] iota_S1x256_d1_w32) shapeCasts_S1x256_S1x256) broadcasts_S1x256_S32x256)
      (broadcast S32x256 0#32)) (reduces_S32x256_S32.lift (ix1 r) n)
      = if fieldVal n.val ≤ u (ix2 r 0) then BitVec.ofNat 32 n.val else 0#32 := by
    intro n
    have e : reduces_S32x256_S32.lift (ix1 r) n = ix2 r n := by funext a; fin_cases a <;> rfl
    rw [e, ValueIdx.select_apply, ValueIdx.cmpf_apply]
    rw [broadcastTo_apply u _ (ix2 r n) (ix2 r 0) (by intro a; fin_cases a <;> rfl),
      broadcastTo_apply _ broadcasts_S1x256_S32x256 (ix2 r n) (ix2 0 n) (by intro a; fin_cases a <;> rfl),
      broadcastTo_apply _ broadcasts_S1x256_S32x256 (ix2 r n) (ix2 0 n) (by intro a; fin_cases a <;> rfl), shapeCast_self]
    have hi : iota .tc S1x256 32 [1] iota_S1x256_d1_w32 (ix2 0 n) = BitVec.ofNat 32 n.val := iota_single_apply _ _ _ _ _ _
    have hb : bitcastToFloat (F := Ideal) .f32 (shli (iota .tc S1x256 32 [1] iota_S1x256_d1_w32) (broadcast S1x256 23#32)) (ix2 0 n)
        = fieldVal n.val := by
      show Ideal.ofBits .f32 (IntOp.shli .vector (iota .tc S1x256 32 [1] iota_S1x256_d1_w32 (ix2 0 n)) 23#32) = _
      rw [hi]; rfl
    rw [hi, hb]
    show (if BitVec.ofBool (decide (fieldVal n.val ≤ u (ix2 r 0))) = 1#1 then _ else _) = _
    by_cases h : fieldVal n.val ≤ u (ix2 r 0)
    · rw [decide_eq_true h, if_pos h]; rfl
    · rw [decide_eq_false h, if_neg h]; rfl
  exact Finset.fold_congr fun n _ => hg n

/-- A finite magnitude: at most the largest finite bf16. -/
def Fin16 (x : EReal) : Prop := max x (-x) ≤ Ideal.ofBits .f32 0x7F7F0000#32

theorem scaled_lt {a : EReal} (h : a ≤ Ideal.ofBits .f32 0x7F7F0000#32) : a * Ideal.ofBits .f32 0x37924925#32 < two 113 := by
  rw [maxBits] at h
  rw [cBits]
  refine lt_of_le_of_lt (mul_le_mul_of_nonneg_right h (EReal.coe_nonneg.2 (by norm_num))) ?_
  rw [two, ← EReal.coe_mul, EReal.coe_lt_coe_iff]
  norm_num

/-- The quantiser changes nothing. -/
theorem quant_eq (x : FVec Ideal S32x128 .bf16) (hx : ∀ i, Fin16 (x i)) : quant x = x := by
  funext j
  rw [ValueIdx.eq_ix2 j]
  generalize j 0 = r
  generalize j 1 = c
  change Fin 32 at r
  change Fin 128 at c
  let v : FVec Ideal S32x128 .f32 := extf .f32 x bitsLt_bf16_f32
  let u : FVec Ideal S32x1 .f32 := mulf (shapeCast S32x1 (rowMax v) shapeCasts_S32_S32x1) (broadcast S32x1 (Scalar.ofBits .f32 0x37924925#32))
  have hu : u (ix2 r 0) = rowMax v (ix1 r) * Ideal.ofBits .f32 0x37924925#32 := by
    show shapeCast S32x1 (rowMax v) shapeCasts_S32_S32x1 (ix2 r 0) * _ = _
    rw [shapeCast_apply (rowMax v) _ (ix2 r 0) (ix1 r) (by rw [Shape.rowMajor_val_one, Shape.rowMajor_val_two]; simp)]
    rfl
  obtain ⟨f, h1, h2, h3, h4⟩ := fieldOf_spec u r (by
    rw [hu]; exact scaled_lt (rowMax_le v _ r fun c => hx (ix2 r c)))
  have hup : bitcastToFloat (F := Ideal) .f32 (shli (addi (fieldOf u) (broadcast S32x1 1#32)) (broadcast S32x1 23#32)) (ix2 r 0) = two (f - 126) := by
    show Ideal.ofBits .f32 (IntOp.shli .vector (IntOp.addi (fieldOf u (ix2 r 0)) 1#32) 23#32) = _
    rw [h4]
    have e : IntOp.addi (BitVec.ofNat 32 f) 1#32 = BitVec.ofNat 32 (f + 1) := by
      rw [BitVec.ofNat_add]; rfl
    rw [e]
    refine (fieldBits (n := f + 1) (by omega) (by omega)).trans (congrArg two ?_)
    push_cast; ring
  have hdown : bitcastToFloat (F := Ideal) .f32 (shli (subi (broadcast S32x1 253#32) (fieldOf u)) (broadcast S32x1 23#32)) (ix2 r 0)
      = two (-(f - 126)) := by
    show Ideal.ofBits .f32 (IntOp.shli .vector (IntOp.subi 253#32 (fieldOf u (ix2 r 0))) 23#32) = _
    rw [h4]
    have e : IntOp.subi 253#32 (BitVec.ofNat 32 f) = BitVec.ofNat 32 (253 - f) := by
      apply BitVec.eq_of_toNat_eq
      show (253#32 - BitVec.ofNat 32 f).toNat = _
      rw [BitVec.toNat_sub, BitVec.toNat_ofNat, BitVec.toNat_ofNat, BitVec.toNat_ofNat]
      omega
    rw [e]
    refine (fieldBits (n := 253 - f) (by omega) (by omega)).trans (congrArg two ?_)
    push_cast [Nat.cast_sub (show f ≤ 253 by omega)]; ring
  have key := clip_scale (x (ix2 r c)) (rowMax v (ix1 r)) (f - 126) (le_rowMax v r c) (by rw [← cBits, ← hu]; exact h3)
  refine Eq.trans ?_ key
  show min (Ideal.ofBits .f32 0x47600000#32) (max (Ideal.ofBits .f32 0xC7600000#32)
      (x (ix2 r c) * broadcastTo S32x128 (bitcastToFloat (F := Ideal) .f32 (shli (subi (broadcast S32x1 253#32) (fieldOf u)) (broadcast S32x1 23#32)))
        broadcasts_S32x1_S32x128 (ix2 r c)))
    * broadcastTo S32x128 (bitcastToFloat (F := Ideal) .f32 (shli (addi (fieldOf u) (broadcast S32x1 1#32)) (broadcast S32x1 23#32)))
        broadcasts_S32x1_S32x128 (ix2 r c) = _
  rw [broadcastTo_apply _ broadcasts_S32x1_S32x128 (ix2 r c) (ix2 r 0) (by intro a; fin_cases a <;> rfl),
    broadcastTo_apply _ broadcasts_S32x1_S32x128 (ix2 r c) (ix2 r 0) (by intro a; fin_cases a <;> rfl), hup, hdown, hiBits, loBits]

end Cert.Value

end
-- ==== Proof.Value.Trip.lean ====
module

public import proofs.«01_k».proof.Proof.Value.Quant

/-! The kernel's quantising loop, over the extended reals: each trip stores 24 blocks of 32 rows, each the quantiser's result on
    the same block of the gradient tile, so the scratch ends as the tile. -/

@[expose] public section

set_option maxRecDepth 16384

noncomputable section

namespace Cert.Value

open Idealize.ShloMosaic Idealize.ShloMosaic.TcCoe Cert.KernelIdeal Cert.KernelIdeal.Gen

/-- A stored piece is block `b` of the 32 rows of trip `k`, and holds there what `g` does. -/
def Blk (g : Vec Ideal S512x3072 .bf16) (k : Fin k0_t1_loop.trips) (b : ℕ) (p : View.Piece (Elt Ideal) S512x3072 .bf16) : Prop :=
  (∀ x, p.2 x = g (p.1.emb x))
    ∧ ∀ y : S512x3072.Idx, 32 * k.val ≤ (y 0).val → (y 0).val < 32 * k.val + 32 → 128 * b ≤ (y 1).val → (y 1).val < 128 * b + 128 → y ∈ p.1.set

/-- Related lists: each element on the right has one on the left, and conversely. -/
theorem forall₂_right {α β : Type*} {R : α → β → Prop} {l : List α} {l' : List β} (h : List.Forall₂ R l l') : ∀ b ∈ l', ∃ a ∈ l, R a b := by
  induction h with
  | nil => exact fun b hb => absurd hb List.not_mem_nil
  | cons h _ ih =>
    intro b hb
    rcases List.mem_cons.1 hb with rfl | hb
    · exact ⟨_, List.mem_cons_self, h⟩
    · obtain ⟨a, ha, hab⟩ := ih b hb
      exact ⟨a, List.mem_cons_of_mem _ ha, hab⟩
theorem forall₂_left {α β : Type*} {R : α → β → Prop} {l : List α} {l' : List β} (h : List.Forall₂ R l l') : ∀ a ∈ l, ∃ b ∈ l', R a b := by
  intro a ha
  obtain ⟨b, hb, hab⟩ := forall₂_right h.flip a ha
  exact ⟨b, hb, hab⟩

section
variable (arg6 : Memref sig .tc .vmem S512x3072 .bf16) (X : BufTy.Contents (Elt Ideal) arg6.view.ty) (k : Fin k0_t1_loop.trips)

theorem blk (hg : ∀ j, Fin16 (arg6.view.read (Elt Ideal) X j)) (b : ℕ) {off : Fin 2 → ℕ} (hoff : off = ![32 * k.val, 128 * b])
    (inb : ∀ a, off a + S32x128.size a ≤ S512x3072.size a) (h : S32x3072.Slices ![0, 128 * b] S32x128)
    {w : Vec Ideal S32x128 .bf16}
    (hw : w = shapeCast S32x128 (quant (extractStridedSlice (s := S32x3072) S32x128 ![0, 128 * b] (trip_k0_t1.sl.r arg6 X k) h)) shapeCasts_S32x128_S32x128) :
    Blk (arg6.view.read (Elt Ideal) X) k b ⟨Rect.unit off ![32, 128] inb, w⟩ := by
  subst hoff
  have hv : ∀ x, extractStridedSlice (s := S32x3072) S32x128 ![0, 128 * b] (trip_k0_t1.sl.r arg6 X k) h x
      = arg6.view.read (Elt Ideal) X ((Rect.unit (s := S512x3072) ![32 * k.val, 128 * b] ![32, 128] inb).emb x) := by
    intro x
    unfold extractStridedSlice trip_k0_t1.sl.r
    rw [View.readAt_apply]
    refine congrArg (arg6.view.read (Elt Ideal) X) (funext fun a => Fin.ext ?_)
    show k0_off2 k a + 1 * (![0, 128 * b] a + (x a).val) = ![32 * k.val, 128 * b] a + 1 * (x a).val
    rw [k0_off2_eq]
    fin_cases a
    · show 32 * k.val + 1 * (0 + (x 0).val) = 32 * k.val + 1 * (x 0).val; omega
    · show 0 + 1 * (128 * b + (x 1).val) = 128 * b + 1 * (x 1).val; omega
  refine ⟨fun x => ?_, fun y h1 h2 h3 h4 => ?_⟩
  · dsimp only
    rw [hw, shapeCast_self, quant_eq _ fun i => by rw [hv]; exact hg _]
    exact hv x
  · rw [Rect.mem_set_unit]
    intro a
    fin_cases a
    · exact ⟨h1, h2⟩
    · exact ⟨h3, h4⟩

variable (𝒱 : Variants) (c : Dev nD) (bd : Option 𝒱.V) (i : grid0.Coords)
  (arg1 : Memref sig .tc .smem S160 .i32) (harg1 : arg1.IsWhole) (arg2 : Memref sig .tc .smem S160 .i32) (harg2 : arg2.IsWhole)
  (arg3 : Memref sig .tc .smem S160 .i32) (harg3 : arg3.IsWhole) (arg4 : Memref sig .tc .smem S160 .i32) (harg4 : arg4.IsWhole)
  (arg5 : Memref sig .tc .smem S160 .i32) (harg5 : arg5.IsWhole) (harg6 : arg6.IsWhole)
  (arg7 : Memref sig .tc .vmem S1x2816x3072 .fp8e4m3) (harg7 : arg7.IsWhole) (arg8 : Memref sig .tc .vmem S1x1x2816 .f32) (harg8 : arg8.IsWhole)
  (arg9 : Memref sig .tc .vmem S512x2816 .bf16) (harg9 : arg9.IsWhole) (arg10 : Memref sig .tc .vmem S512x3072 .bf16) (harg10 : arg10.IsWhole)

/-- A trip's pieces, last stored first: the 24 blocks of its rows. -/
theorem trip_blocks (hg : ∀ j, Fin16 (arg6.view.read (Elt Ideal) X j)) :
    List.Forall₂ (Blk (arg6.view.read (Elt Ideal) X) k) [23, 22, 21, 20, 19, 18, 17, 16, 15, 14, 13, 12, 11, 10, 9, 8, 7, 6, 5, 4, 3, 2, 1, 0]
      (tripL_k0_t1 (F := Ideal) 𝒱 c bd i arg1 harg1 arg2 harg2 arg3 harg3 arg4 harg4 arg5 harg5 arg6 harg6 arg7 harg7 arg8 harg8 arg9 harg9 arg10 harg10 X k) := by
  unfold tripL_k0_t1 trip_k0_t1
  dsimp only
  exact
    .cons (blk arg6 X k hg 23 (k0_off26_eq k) _ (by decide) rfl)
    (.cons (blk arg6 X k hg 22 (k0_off25_eq k) _ (by decide) rfl)
    (.cons (blk arg6 X k hg 21 (k0_off24_eq k) _ (by decide) rfl)
    (.cons (blk arg6 X k hg 20 (k0_off23_eq k) _ (by decide) rfl)
    (.cons (blk arg6 X k hg 19 (k0_off22_eq k) _ (by decide) rfl)
    (.cons (blk arg6 X k hg 18 (k0_off21_eq k) _ (by decide) rfl)
    (.cons (blk arg6 X k hg 17 (k0_off20_eq k) _ (by decide) rfl)
    (.cons (blk arg6 X k hg 16 (k0_off19_eq k) _ (by decide) rfl)
    (.cons (blk arg6 X k hg 15 (k0_off18_eq k) _ (by decide) rfl)
    (.cons (blk arg6 X k hg 14 (k0_off17_eq k) _ (by decide) rfl)
    (.cons (blk arg6 X k hg 13 (k0_off16_eq k) _ (by decide) rfl)
    (.cons (blk arg6 X k hg 12 (k0_off15_eq k) _ (by decide) rfl)
    (.cons (blk arg6 X k hg 11 (k0_off14_eq k) _ (by decide) rfl)
    (.cons (blk arg6 X k hg 10 (k0_off13_eq k) _ (by decide) rfl)
    (.cons (blk arg6 X k hg 9 (k0_off12_eq k) _ (by decide) rfl)
    (.cons (blk arg6 X k hg 8 (k0_off11_eq k) _ (by decide) rfl)
    (.cons (blk arg6 X k hg 7 (k0_off10_eq k) _ (by decide) rfl)
    (.cons (blk arg6 X k hg 6 (k0_off9_eq k) _ (by decide) rfl)
    (.cons (blk arg6 X k hg 5 (k0_off8_eq k) _ (by decide) rfl)
    (.cons (blk arg6 X k hg 4 (k0_off7_eq k) _ (by decide) rfl)
    (.cons (blk arg6 X k hg 3 (k0_off6_eq k) _ (by decide) rfl)
    (.cons (blk arg6 X k hg 2 (k0_off5_eq k) _ (by decide) rfl)
    (.cons (blk arg6 X k hg 1 (k0_off4_eq k) _ (by decide) rfl)
    (.cons (blk arg6 X k hg 0 (k0_off3_eq k) _ (by decide) rfl)
    .nil)))))))))))))))))))))))

/-- After the loop the scratch reads the gradient tile. -/
theorem loop_read (hg : ∀ j, Fin16 (arg6.view.read (Elt Ideal) X j)) (G : BufTy.Contents (Elt Ideal) arg10.view.ty) :
    arg10.view.read (Elt Ideal) (arg10.view.writes (Elt Ideal) G
      (pb_k0_t1 (F := Ideal) 𝒱 c bd i arg1 harg1 arg2 harg2 arg3 harg3 arg4 harg4 arg5 harg5 arg6 harg6 arg7 harg7 arg8 harg8 arg9 harg9 arg10 harg10 X
        k0_t1_loop.trips)) = arg6.view.read (Elt Ideal) X := by
  have htrips : k0_t1_loop.trips = 16 := by decide
  have hb := fun k => trip_blocks arg6 X k 𝒱 c bd i arg1 harg1 arg2 harg2 arg3 harg3 arg4 harg4 arg5 harg5 harg6 arg7 harg7 arg8 harg8 arg9 harg9 arg10 harg10 hg
  have key : ∀ n, n ≤ k0_t1_loop.trips →
      (∀ p ∈ pb_k0_t1 (F := Ideal) 𝒱 c bd i arg1 harg1 arg2 harg2 arg3 harg3 arg4 harg4 arg5 harg5 arg6 harg6 arg7 harg7 arg8 harg8 arg9 harg9 arg10 harg10 X n,
        ∀ x, p.2 x = arg6.view.read (Elt Ideal) X (p.1.emb x))
      ∧ ∀ y : S512x3072.Idx, (y 0).val < 32 * n →
        ∃ p ∈ pb_k0_t1 (F := Ideal) 𝒱 c bd i arg1 harg1 arg2 harg2 arg3 harg3 arg4 harg4 arg5 harg5 arg6 harg6 arg7 harg7 arg8 harg8 arg9 harg9 arg10 harg10 X n, y ∈ p.1.set := by
    intro n
    induction n with
    | zero => exact fun _ => ⟨fun p hp => absurd hp List.not_mem_nil, fun y hy => absurd hy (by omega)⟩
    | succ n ih =>
      intro hn
      obtain ⟨ih1, ih2⟩ := ih (by omega)
      have e := pb_k0_t1_succ (F := Ideal) 𝒱 c bd i arg1 harg1 arg2 harg2 arg3 harg3 arg4 harg4 arg5 harg5 arg6 harg6 arg7 harg7 arg8 harg8 arg9 harg9 arg10 harg10 X ⟨n, hn⟩
      rw [show n + 1 = (⟨n, hn⟩ : Fin k0_t1_loop.trips).val + 1 from rfl, e]
      refine ⟨fun p hp => ?_, fun y hy => ?_⟩
      · rcases List.mem_append.1 hp with hp | hp
        · obtain ⟨b, -, hblk⟩ := forall₂_right (hb ⟨n, hn⟩) p hp
          exact hblk.1
        · exact ih1 p hp
      · by_cases hlt : (y 0).val < 32 * n
        · obtain ⟨p, hp, hy'⟩ := ih2 y hlt
          exact ⟨p, List.mem_append.2 (.inr hp), hy'⟩
        · have h3072 : (y 1).val < 3072 := (y 1).isLt
          obtain ⟨p, hp, hblk⟩ := forall₂_left (hb ⟨n, hn⟩) ((y 1).val / 128) (by
            have : (y 1).val / 128 < 24 := by omega
            generalize (y 1).val / 128 = b at this
            interval_cases b <;> decide)
          refine ⟨p, List.mem_append.2 (.inl hp), hblk.2 y ?_ ?_ ?_ ?_⟩
          · show 32 * n ≤ _; omega
          · show _ < 32 * n + 32
            have : (⟨n, hn⟩ : Fin k0_t1_loop.trips).val = n := rfl
            omega
          · omega
          · omega
  funext y
  have h512 : (y 0).val < 512 := (y 0).isLt
  exact View.read_writes_apply_of_pieces arg10.view G (arg6.view.read (Elt Ideal) X) _ (key _ le_rfl).1 y ((key _ le_rfl).2 y (by rw [htrips]; omega))

end

end Cert.Value

end
-- ==== Proof.Value.Dot.lean ====
module

public import proofs.«01_k».proof.Proof.Value.Quant

/-! One piece of an output tile, read at an index. -/

@[expose] public section

set_option maxRecDepth 16384

noncomputable section

namespace Cert.Value

open Idealize.ShloMosaic Cert.KernelIdeal Cert.KernelIdeal.Gen
open Idealize.ShloMosaic.ValueIdx (ix1 ix2 ix3)
open scoped BigOperators

/-- Which rows are live: those from `lo` below `hi`. -/
def mask (lo hi : BitVec 32) : IVec S512x256 1 :=
  andi (cmpi .sge (iota .tc S512x256 32 [0] iota_S512x256_d0_w32) (broadcast S512x256 lo))
    (cmpi .slt (iota .tc S512x256 32 [0] iota_S512x256_d0_w32) (broadcast S512x256 hi))

/-- One piece: the live rows' products, scaled by column. -/
def outPay (lo hi : BitVec 32) (s : Vec Ideal S512x3072 .bf16) (w : Vec Ideal S1x256x3072 .fp8e4m3) (sc : Vec Ideal S1x1x256 .f32)
    (old : Vec Ideal S512x256 .bf16) : FVec Ideal S512x256 .bf16 :=
  let acc : FVec Ideal S512x256 .f32 := matmul (φ₁ := .bf16) dot_S512x3072_S256x3072_S512x256_1_1_0_0_n_n none (s : FVec Ideal S512x3072 .bf16)
    (shapeCast S256x3072 w shapeCasts_S1x256x3072_S256x3072 : FVec Ideal S256x3072 .fp8e4m3) (constant S512x256 .f32 0x00000000#32)
  let row : FVec Ideal S1x256 .f32 := shapeCast S1x256 sc shapeCasts_S1x1x256_S1x256
  let prev : FVec Ideal S512x256 .f32 := extf .f32 (shapeCast S512x256 old shapeCasts_S512x256_S512x256 : FVec Ideal S512x256 .bf16) bitsLt_bf16_f32
  truncf .bf16 (select (mask lo hi) (mulf acc (broadcastTo S512x256 row broadcasts_S1x256_S512x256)) prev) bitsLt_bf16_f32

/-- A row is live. -/
def Live (lo hi : BitVec 32) (r : ℕ) : Prop := lo.toInt ≤ (BitVec.ofNat 32 r).toInt ∧ (BitVec.ofNat 32 r).toInt < hi.toInt

instance (lo hi : BitVec 32) (r : ℕ) : Decidable (Live lo hi r) := by unfold Live; infer_instance

theorem mask_apply (lo hi : BitVec 32) (r : Fin 512) (c : Fin 256) : mask lo hi (ix2 r c) = 1#1 ↔ Live lo hi r.val := by
  have hi' : iota .tc S512x256 32 [0] iota_S512x256_d0_w32 (ix2 r c) = BitVec.ofNat 32 r.val := iota_single_apply _ _ _ _ _ _
  show IntOp.andi (IntOp.cmpi .sge (iota .tc S512x256 32 [0] iota_S512x256_d0_w32 (ix2 r c)) lo)
    (IntOp.cmpi .slt (iota .tc S512x256 32 [0] iota_S512x256_d0_w32 (ix2 r c)) hi) = 1#1 ↔ _
  rw [hi']
  show BitVec.ofBool (lo.sle (BitVec.ofNat 32 r.val)) &&& BitVec.ofBool ((BitVec.ofNat 32 r.val).slt hi) = 1#1 ↔ _
  unfold Live
  rw [BitVec.sle, BitVec.slt]
  by_cases h1 : lo.toInt ≤ (BitVec.ofNat 32 r.val).toInt <;> by_cases h2 : (BitVec.ofNat 32 r.val).toInt < hi.toInt <;>
    simp [h1, h2]

theorem acc_apply (s : FVec Ideal S512x3072 .bf16) (w : FVec Ideal S256x3072 .fp8e4m3) (r : Fin 512) (c : Fin 256) :
    (matmul (φ₁ := .bf16) dot_S512x3072_S256x3072_S512x256_1_1_0_0_n_n none (s : FVec Ideal S512x3072 .bf16) w (constant S512x256 .f32 0x00000000#32) : FVec Ideal S512x256 .f32) (ix2 r c)
      = ∑ k : Fin 3072, s (ix2 r k) * w (ix2 c k) := by
  refine (Ideal.matmul_constant_zero_apply _ none s w (ix2 r c)).trans ?_
  refine Fintype.sum_equiv (ValueIdx.contrEquiv1 _ 3072 rfl rfl) _ _ fun k => ?_
  have e1 : dot_S512x3072_S256x3072_S512x256_1_1_0_0_n_n.lhsIdx (ix2 r c) k = ix2 r (k ⟨0, Nat.one_pos⟩) := by
    funext a; fin_cases a <;> rfl
  have e2 : dot_S512x3072_S256x3072_S512x256_1_1_0_0_n_n.rhsIdx (ix2 r c) k = ix2 c (k ⟨0, Nat.one_pos⟩) := by
    funext a; fin_cases a <;> rfl
  rw [e1, e2]; rfl

theorem outPay_apply (lo hi : BitVec 32) (s : Vec Ideal S512x3072 .bf16) (w : Vec Ideal S1x256x3072 .fp8e4m3) (sc : Vec Ideal S1x1x256 .f32)
    (old : Vec Ideal S512x256 .bf16) (r : Fin 512) (c : Fin 256) :
    outPay lo hi s w sc old (ix2 r c)
      = if Live lo hi r.val then (∑ k : Fin 3072, s (ix2 r k) * w (ix3 0 c k)) * sc (ix3 0 0 c) else old (ix2 r c) := by
  have hw : ∀ k : Fin 3072, (shapeCast S256x3072 w shapeCasts_S1x256x3072_S256x3072) (ix2 c k) = w (ix3 0 c k) := fun k =>
    shapeCast_apply w _ _ _ (by rw [Shape.rowMajor_val_two, Shape.rowMajor_val_three]; simp)
  have hs : broadcastTo S512x256 (shapeCast S1x256 sc shapeCasts_S1x1x256_S1x256) broadcasts_S1x256_S512x256 (ix2 r c) = sc (ix3 0 0 c) := by
    rw [broadcastTo_apply _ broadcasts_S1x256_S512x256 (ix2 r c) (ix2 0 c) (by intro a; fin_cases a <;> rfl)]
    exact shapeCast_apply sc _ _ _ (by rw [Shape.rowMajor_val_two, Shape.rowMajor_val_three]; simp)
  have ho : shapeCast S512x256 old shapeCasts_S512x256_S512x256 = old := shapeCast_self _ _
  unfold outPay
  show Scalar.select (mask lo hi (ix2 r c)) ((_ : FVec Ideal S512x256 .f32) (ix2 r c) * broadcastTo S512x256 _ broadcasts_S1x256_S512x256 (ix2 r c))
    (shapeCast S512x256 old shapeCasts_S512x256_S512x256 (ix2 r c)) = _
  rw [acc_apply, hs, ho]
  simp only [hw]
  unfold Scalar.select
  by_cases h : Live lo hi r.val
  · exact (if_pos ((mask_apply lo hi r c).2 h)).trans (if_pos h).symm
  · exact (if_neg fun h' => h ((mask_apply lo hi r c).1 h')).trans (if_neg h).symm

/-- What an output tile holds after a visit: on live rows the scaled products, elsewhere what it held. -/
def outTile (lo hi : BitVec 32) (s : Vec Ideal S512x3072 .bf16) (x7 : Vec Ideal S1x2816x3072 .fp8e4m3) (x8 : Vec Ideal S1x1x2816 .f32)
    (x9 : Vec Ideal S512x2816 .bf16) : Vec Ideal S512x2816 .bf16 := fun y =>
  if Live lo hi (y 0).val then (∑ k : Fin 3072, s (ix2 (y 0) k) * x7 (ix3 0 (y 1) k)) * x8 (ix3 0 0 (y 1)) else x9 y

end Cert.Value

end
-- ==== Proof.Value.Store.lean ====
module

public import proofs.«01_k».proof.Proof.Value.Trip
public import proofs.«01_k».proof.Proof.Value.Dot

/-! The kernel's stores into an output tile, over the extended reals: 11 pieces of 256 columns, each row of a piece a product
    with the expert's weights times the expert's scales where the row is live, and what the tile held elsewhere. -/

@[expose] public section

set_option maxRecDepth 16384

noncomputable section

namespace Cert.Value

open Idealize.ShloMosaic Idealize.ShloMosaic.TcCoe Cert.KernelIdeal Cert.KernelIdeal.Gen
open Idealize.ShloMosaic.ValueIdx (ix1 ix2 ix3)

/-- A stored piece is the 256 columns from `256 j`, and holds there what `g` does. -/
def OutBlk (g : Vec Ideal S512x2816 .bf16) (j : ℕ) (p : View.Piece (Elt Ideal) S512x2816 .bf16) : Prop :=
  (∀ x, p.2 x = g (p.1.emb x)) ∧ ∀ y : S512x2816.Idx, 256 * j ≤ (y 1).val → (y 1).val < 256 * j + 256 → y ∈ p.1.set

theorem outBlk (lo hi : BitVec 32) (s : Vec Ideal S512x3072 .bf16) (x7 : Vec Ideal S1x2816x3072 .fp8e4m3) (x8 : Vec Ideal S1x1x2816 .f32)
    (x9 : Vec Ideal S512x2816 .bf16)
    (arg7 : Memref sig .tc .vmem S1x2816x3072 .fp8e4m3) (arg8 : Memref sig .tc .vmem S1x1x2816 .f32) (arg9 : Memref sig .tc .vmem S512x2816 .bf16)
    {X7 : BufTy.Contents (Elt Ideal) arg7.view.ty} {X8 : BufTy.Contents (Elt Ideal) arg8.view.ty} {X9 : BufTy.Contents (Elt Ideal) arg9.view.ty}
    (h7 : arg7.view.read (Elt Ideal) X7 = x7) (h8 : arg8.view.read (Elt Ideal) X8 = x8) (h9 : arg9.view.read (Elt Ideal) X9 = x9)
    {lo' hi' : BitVec 32} {s' : Vec Ideal S512x3072 .bf16} (elo : lo' = lo) (ehi : hi' = hi) (es : s' = s)
    (j : ℕ) (b7 : ∀ a, ![0, 256 * j, 0] a + S1x256x3072.size a ≤ S1x2816x3072.size a) (b8 : ∀ a, ![0, 0, 256 * j] a + S1x1x256.size a ≤ S1x1x2816.size a)
    (b9 : ∀ a, ![0, 256 * j] a + S512x256.size a ≤ S512x2816.size a) {w : Vec Ideal S512x256 .bf16}
    (hw : w = outPay lo' hi' s' (arg7.view.readAt (Elt Ideal) (Rect.unit (s := S1x2816x3072) ![0, 256 * j, 0] S1x256x3072.size b7).toLoadRect X7)
      (arg8.view.readAt (Elt Ideal) (Rect.unit (s := S1x1x2816) ![0, 0, 256 * j] S1x1x256.size b8).toLoadRect X8)
      (arg9.view.readAt (Elt Ideal) (Rect.unit (s := S512x2816) ![0, 256 * j] S512x256.size b9).toLoadRect X9)) :
    OutBlk (outTile lo hi s x7 x8 x9) j ⟨Rect.unit (s := S512x2816) ![0, 256 * j] S512x256.size b9, w⟩ := by
  subst h7 h8 h9 elo ehi es
  refine ⟨fun x => ?_, fun y h1 h2 => ?_⟩
  · obtain ⟨r, c, rfl⟩ : ∃ (r : Fin 512) (c : Fin 256), x = ix2 r c := ⟨x 0, x 1, ValueIdx.eq_ix2 x⟩
    dsimp only
    rw [hw, outPay_apply]
    have hc : 256 * j + c.val < 2816 := by have := b9 1; have h' : 256 * j + 256 ≤ 2816 := this; have := c.isLt; omega
    have e9 : (Rect.unit (s := S512x2816) ![0, 256 * j] S512x256.size b9).emb (ix2 r c) = ix2 r ⟨256 * j + c.val, hc⟩ := by
      funext a
      refine Fin.ext ?_
      fin_cases a
      · show 0 + 1 * r.val = r.val; omega
      · show 256 * j + 1 * c.val = 256 * j + c.val; omega
    have e7 : ∀ k : Fin 3072, (Rect.unit (s := S1x2816x3072) ![0, 256 * j, 0] S1x256x3072.size b7).emb (ix3 0 c k) = ix3 0 ⟨256 * j + c.val, hc⟩ k := by
      intro k
      funext a
      refine Fin.ext ?_
      fin_cases a
      · rfl
      · show 256 * j + 1 * c.val = 256 * j + c.val; omega
      · show 0 + 1 * k.val = k.val; omega
    have e8 : (Rect.unit (s := S1x1x2816) ![0, 0, 256 * j] S1x1x256.size b8).emb (ix3 0 0 c) = ix3 0 0 ⟨256 * j + c.val, hc⟩ := by
      funext a
      refine Fin.ext ?_
      fin_cases a
      · rfl
      · rfl
      · show 256 * j + 1 * c.val = 256 * j + c.val; omega
    have r7 : ∀ k : Fin 3072, arg7.view.readAt (Elt Ideal) (Rect.unit (s := S1x2816x3072) ![0, 256 * j, 0] S1x256x3072.size b7).toLoadRect X7 (ix3 0 c k)
        = arg7.view.read (Elt Ideal) X7 (ix3 0 ⟨256 * j + c.val, hc⟩ k) := fun k => congrArg (arg7.view.read (Elt Ideal) X7) (e7 k)
    have r8 : arg8.view.readAt (Elt Ideal) (Rect.unit (s := S1x1x2816) ![0, 0, 256 * j] S1x1x256.size b8).toLoadRect X8 (ix3 0 0 c)
        = arg8.view.read (Elt Ideal) X8 (ix3 0 0 ⟨256 * j + c.val, hc⟩) := congrArg (arg8.view.read (Elt Ideal) X8) e8
    have r9 : arg9.view.readAt (Elt Ideal) (Rect.unit (s := S512x2816) ![0, 256 * j] S512x256.size b9).toLoadRect X9 (ix2 r c)
        = arg9.view.read (Elt Ideal) X9 (ix2 r ⟨256 * j + c.val, hc⟩) := congrArg (arg9.view.read (Elt Ideal) X9) e9
    rw [e9, r8, r9]
    simp only [r7]
    rfl
  · rw [Rect.mem_set_unit]
    intro a
    fin_cases a
    · exact ⟨Nat.zero_le _, by show (y 0).val < 0 + 512; have := (y 0).isLt; have h' : (y 0).val < 512 := this; omega⟩
    · exact ⟨h1, h2⟩

/-- After the stores the tile reads the values stored. -/
theorem out_read (arg9 : Memref sig .tc .vmem S512x2816 .bf16) (g : Vec Ideal S512x2816 .bf16) (X9 : BufTy.Contents (Elt Ideal) arg9.view.ty)
    {L : List (View.Piece (Elt Ideal) S512x2816 .bf16)} (hL : List.Forall₂ (OutBlk g) [10, 9, 8, 7, 6, 5, 4, 3, 2, 1, 0] L) :
    arg9.view.read (Elt Ideal) (arg9.view.writes (Elt Ideal) X9 L) = g := by
  funext y
  refine View.read_writes_apply_of_pieces arg9.view X9 g L (fun p hp x => ?_) y ?_
  · obtain ⟨j, -, h⟩ := forall₂_right hL p hp
    exact h.1 x
  · have hy : (y 1).val < 2816 := (y 1).isLt
    have hj : (y 1).val / 256 ∈ [10, 9, 8, 7, 6, 5, 4, 3, 2, 1, 0] := by
      have : (y 1).val / 256 < 11 := by omega
      generalize (y 1).val / 256 = q at this ⊢
      interval_cases q <;> decide
    obtain ⟨p, hp, h⟩ := forall₂_left hL _ hj
    exact ⟨p, hp, h.2 y (by omega) (by omega)⟩

end Cert.Value

end
-- ==== Proof.Value.Run.lean ====
module

public import proofs.«01_k».proof.Proof.Value.Store
public import proofs.«01_k».proof.Proof.KernelIdeal.TablesOk

/-! The kernel body's run over the extended reals, with what it leaves: the scratch holds the gradient tile from a tile's first
    visit on, and the output tile's live rows hold the scaled products. -/

@[expose] public section

set_option maxRecDepth 16384

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)
open Cert.KernelIdeal Cert.KernelIdeal.Gen Cert.KernelIdeal.Hand
open Idealize.ShloMosaic.ValueIdx (ix1 ix2 ix3)

local notation "𝕄" => MT nD τ sig Unit (Elt Ideal) ℕ (UR sig nD τ) ℕ

/-- A table's entry at a grid point. -/
def word (i : grid0.Coords) (t : IVec S160 32) : BitVec 32 := t (ValueIdx.ix1 (gi i))

/-- What a visit leaves: the scratch, from the gradient tile or as it was; and the output tile. -/
def Visit (lo hi first : BitVec 32) (x6 : Vec Ideal S512x3072 .bf16) (x7 : Vec Ideal S1x2816x3072 .fp8e4m3) (x8 : Vec Ideal S1x1x2816 .f32)
    (x9 : Vec Ideal S512x2816 .bf16) (s : Vec Ideal S512x3072 .bf16) (y : Vec Ideal S512x2816 .bf16) (s' : Vec Ideal S512x3072 .bf16) : Prop :=
  s' = (if first = 1#32 then x6 else s) ∧ y = outTile lo hi s' x7 x8 x9

theorem hpos : 0 < S1.numel := lt_of_lt_of_eq Nat.zero_lt_one numel1_S1.symm
theorem read2 (c : Dev nD) (i : grid0.Coords) (t : MBuf (F := Ideal) c tbM2) :
    tbM2.view.readAt (Elt Ideal) (Rect.unit (s := S160) (k0_off27 i) S1.size (k0_off27_inb i)).toLoadRect t (Shape.Idx.first hpos) = word i t := congrArg t (emb_gi i hpos)
theorem read3 (c : Dev nD) (i : grid0.Coords) (t : MBuf (F := Ideal) c tbM3) :
    tbM3.view.readAt (Elt Ideal) (Rect.unit (s := S160) (k0_off27 i) S1.size (k0_off27_inb i)).toLoadRect t (Shape.Idx.first hpos) = word i t := congrArg t (emb_gi i hpos)
theorem read4 (c : Dev nD) (i : grid0.Coords) (t : MBuf (F := Ideal) c tbM4) :
    tbM4.view.readAt (Elt Ideal) (Rect.unit (s := S160) (k0_off1 i) S1.size (k0_off1_inb i)).toLoadRect t (Shape.Idx.first hpos) = word i t := congrArg t (emb_gi i hpos)

theorem first_iff (v : BitVec 32) : Scalar.cmpi .ne (Scalar.extui (Scalar.cmpi .eq v 1#32) : BitVec 32) 0#32 = 1#1 ↔ v = 1#32 := by
  show BitVec.ofBool (BitVec.setWidth 32 (BitVec.ofBool (v == 1#32)) != 0#32) = 1#1 ↔ _
  by_cases h : v = 1#32
  · rw [h]; decide
  · rw [beq_false_of_ne h]; exact ⟨fun h' => absurd h' (by decide), fun h' => absurd h' h⟩

theorem live_iff (lo hi : BitVec 32) : k0_cond2 lo hi = 1#1 ↔ lo.toInt < hi.toInt := by
  show BitVec.ofBool (BitVec.setWidth 32 (BitVec.ofBool (BitVec.slt lo hi)) != 0#32) = 1#1 ↔ _
  unfold BitVec.slt
  by_cases h : lo.toInt < hi.toInt
  · rw [decide_eq_true h]; exact ⟨fun _ => h, fun _ => by decide⟩
  · rw [decide_eq_false h]; exact ⟨fun h' => absurd h' (by decide), fun h' => absurd h' h⟩

theorem outTile_dead (lo hi : BitVec 32) (s : Vec Ideal S512x3072 .bf16) (x7 : Vec Ideal S1x2816x3072 .fp8e4m3) (x8 : Vec Ideal S1x1x2816 .f32)
    (x9 : Vec Ideal S512x2816 .bf16) (h : ¬ lo.toInt < hi.toInt) : outTile lo hi s x7 x8 x9 = x9 := by
  funext y
  exact if_neg fun hl => h (lt_of_le_of_lt hl.1 hl.2)

theorem whole_read (arg10 : Memref sig .tc .vmem S512x3072 .bf16) (G : BufTy.Contents (Elt Ideal) arg10.view.ty) (s : Vec Ideal S512x3072 .bf16)
    (inb : ∀ a, ![0, 0] a + S512x3072.size a ≤ S512x3072.size a) (h : arg10.view.read (Elt Ideal) G = s) :
    arg10.view.readAt (Elt Ideal) (Rect.unit (s := S512x3072) ![0, 0] S512x3072.size inb).toLoadRect G = s := by
  subst h
  funext x
  refine congrArg (arg10.view.read (Elt Ideal) G) (funext fun a => Fin.ext ?_)
  fin_cases a
  · show 0 + 1 * (x 0).val = (x 0).val; omega
  · show 0 + 1 * (x 1).val = (x 1).val; omega

set_option maxHeartbeats 600000 in
theorem run (c : Dev nD) (i : grid0.Coords)
    (arg6 : Memref sig .tc .vmem S512x3072 .bf16) (harg6 : arg6.IsWhole) (arg7 : Memref sig .tc .vmem S1x2816x3072 .fp8e4m3) (harg7 : arg7.IsWhole)
    (arg8 : Memref sig .tc .vmem S1x1x2816 .f32) (harg8 : arg8.IsWhole) (arg9 : Memref sig .tc .vmem S512x2816 .bf16) (harg9 : arg9.IsWhole)
    (x6 : Vec Ideal S512x3072 .bf16) (x7 : Vec Ideal S1x2816x3072 .fp8e4m3) (x8 : Vec Ideal S1x1x2816 .f32) (x9 : Vec Ideal S512x2816 .bf16)
    (t0 : MBuf (F := Ideal) c tbM0) (t1 : MBuf (F := Ideal) c tbM1) (t2 : MBuf (F := Ideal) c tbM2) (t3 : MBuf (F := Ideal) c tbM3) (t4 : MBuf (F := Ideal) c tbM4)
    (arg10 : Memref sig .tc .vmem S512x3072 .bf16) (harg10 : arg10.IsWhole) (s : Vec Ideal S512x3072 .bf16) (hx : ∀ j, Fin16 (x6 j)) :
      ∀ (W : Waits sig Unit) (K : PUnit → sProp 𝕄),
        iprop(owns (c : Thread nD τ) arg6 fullShare x6 ∗ owns (c : Thread nD τ) arg7 fullShare x7 ∗ owns (c : Thread nD τ) arg8 fullShare x8
            ∗ owns (c : Thread nD τ) arg9 fullShare x9
            ∗ tbPt c tbM0 t0 ∗ tbPt c tbM1 t1 ∗ tbPt c tbM2 t2 ∗ tbPt c tbM3 t3 ∗ tbPt c tbM4 t4
            ∗ owns (c : Thread nD τ) arg10 fullShare s ∗ owes (c : Thread nD τ) 0 W
            ∗ (iprop(owns (c : Thread nD τ) arg6 fullShare x6 ∗ owns (c : Thread nD τ) arg7 fullShare x7 ∗ owns (c : Thread nD τ) arg8 fullShare x8
            ∗ (∃ y s', ⌜Visit (word i t2) (word i t3) (word i t4) x6 x7 x8 x9 s y s'⌝ ∗ owns (c : Thread nD τ) arg9 fullShare y ∗ owns (c : Thread nD τ) arg10 fullShare s')
            ∗ tbPt c tbM0 t0 ∗ tbPt c tbM1 t1 ∗ tbPt c tbM2 t2 ∗ tbPt c tbM3 t3 ∗ tbPt c tbM4 t4
            ∗ (∃ W', owes (c : Thread nD τ) 0 W')) -∗ K ⟨⟩))
          ⊢ wp frame (wpE (defs₀ (F := Ideal)) Variants.none c none) Set.univ (cc0_grouped_dgrad i tbM0 (Memref.isWhole_whole _) tbM1 (Memref.isWhole_whole _) tbM2 (Memref.isWhole_whole _) tbM3 (Memref.isWhole_whole _) tbM4 (Memref.isWhole_whole _) arg6 harg6 arg7 harg7 arg8 harg8 arg9 harg9 arg10 harg10) K := by
    intro W K
    simp only [cc0_grouped_dgrad_eq_skeleton]; unfold cc0_grouped_dgrad_skel
    unfold owns
    iintro ⟨⟨%f6, %hf6, H6⟩, ⟨%f7, %hf7, H7⟩, ⟨%f8, %hf8, H8⟩, ⟨%f9, %hf9, H9⟩, HT0, HT1, HT2, HT3, HT4, ⟨%f10, %hf10, HS⟩, HW, Hk⟩
    obtain rfl := harg6.eq_unread hf6
    obtain rfl := harg7.eq_unread hf7
    obtain rfl := harg8.eq_unread hf8
    obtain rfl := harg9.eq_unread hf9
    obtain rfl := harg10.eq_unread hf10
    sl_exec
    split
    · rename_i h1
      sl_exec
      split
      · rename_i h2
        sl_exec
        have q4 : run.sl.v4 c i t4 = 1#1 ↔ word i t4 = 1#32 := by rw [← read4 c i t4]; exact first_iff _
        have hsc := loop_read arg6 (harg6.unread x6) Variants.none c none i tbM0 (Memref.isWhole_whole _) tbM1 (Memref.isWhole_whole _) tbM2 (Memref.isWhole_whole _) tbM3 (Memref.isWhole_whole _) tbM4 (Memref.isWhole_whole _) harg6 arg7 harg7 arg8 harg8 arg9 harg9 arg10 harg10 (by rw [harg6.read_unread]; exact hx) (harg10.unread s)
        rw [harg6.read_unread] at hsc
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9 HS]
        · iexists (outTile (word i t2) (word i t3) x6 x7 x8 x9), x6
          isplitr; · ipureintro; exact ⟨(if_pos (q4.1 h1)).symm, rfl⟩
          isplitl [H9]
          · iexists _; isplitr; swap; (· iexact H9); ipureintro
            have hsr : run.sl.v18 c i arg6 harg6 arg7 harg7 arg8 harg8 arg9 harg9 x6 arg10 harg10 s = x6 := whole_read arg10 _ _ _ hsc
            have hP := fun j b7 b8 b9 w hw => outBlk (word i t2) (word i t3) x6 x7 x8 x9 arg7 arg8 arg9 (harg7.read_unread x7) (harg8.read_unread x8) (harg9.read_unread x9) (read2 c i t2) (read3 c i t3) hsr j b7 b8 b9 (w := w) hw
            refine out_read arg9 _ _ ?_
            exact
              .cons (hP 10 (by decide) (by decide) _ _ rfl) <|
              .cons (hP 9 (by decide) (by decide) _ _ rfl) <|
              .cons (hP 8 (by decide) (by decide) _ _ rfl) <|
              .cons (hP 7 (by decide) (by decide) _ _ rfl) <|
              .cons (hP 6 (by decide) (by decide) _ _ rfl) <|
              .cons (hP 5 (by decide) (by decide) _ _ rfl) <|
              .cons (hP 4 (by decide) (by decide) _ _ rfl) <|
              .cons (hP 3 (by decide) (by decide) _ _ rfl) <|
              .cons (hP 2 (by decide) (by decide) _ _ rfl) <|
              .cons (hP 1 (by decide) (by decide) _ _ rfl) <|
              .cons (hP 0 (by decide) (by decide) _ _ rfl) <|
              .nil
          · iexists _; isplitr; swap; (· iexact HS); ipureintro; exact hsc
        isplitl [HT0]; · iexact HT0
        isplitl [HT1]; · iexact HT1
        isplitl [HT2]; · iexact HT2
        isplitl [HT3]; · iexact HT3
        isplitl [HT4]; · iexact HT4
        iexists _; iexact HW
      · rename_i h2
        sl_exec
        have q4 : run.sl.v4 c i t4 = 1#1 ↔ word i t4 = 1#32 := by rw [← read4 c i t4]; exact first_iff _
        have hsc := loop_read arg6 (harg6.unread x6) Variants.none c none i tbM0 (Memref.isWhole_whole _) tbM1 (Memref.isWhole_whole _) tbM2 (Memref.isWhole_whole _) tbM3 (Memref.isWhole_whole _) tbM4 (Memref.isWhole_whole _) harg6 arg7 harg7 arg8 harg8 arg9 harg9 arg10 harg10 (by rw [harg6.read_unread]; exact hx) (harg10.unread s)
        rw [harg6.read_unread] at hsc
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9 HS]
        · iexists (outTile (word i t2) (word i t3) x6 x7 x8 x9), x6
          isplitr; · ipureintro; exact ⟨(if_pos (q4.1 h1)).symm, rfl⟩
          isplitl [H9]
          · iexists _; isplitr; swap; (· iexact H9); ipureintro
            refine (harg9.read_unread x9).trans (outTile_dead _ _ _ _ _ _ fun h => h2 ?_).symm
            have := (live_iff _ _).2 h; rw [← read2 c i t2, ← read3 c i t3] at this; exact this
          · iexists _; isplitr; swap; (· iexact HS); ipureintro; exact hsc
        isplitl [HT0]; · iexact HT0
        isplitl [HT1]; · iexact HT1
        isplitl [HT2]; · iexact HT2
        isplitl [HT3]; · iexact HT3
        isplitl [HT4]; · iexact HT4
        iexists _; iexact HW
    · rename_i h1
      sl_exec
      split
      · rename_i h2
        sl_exec
        have q4 : run.sl.v4 c i t4 = 1#1 ↔ word i t4 = 1#32 := by rw [← read4 c i t4]; exact first_iff _
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9 HS]
        · iexists (outTile (word i t2) (word i t3) s x7 x8 x9), s
          isplitr; · ipureintro; exact ⟨(if_neg fun h => h1 (q4.2 h)).symm, rfl⟩
          isplitl [H9]
          · iexists _; isplitr; swap; (· iexact H9); ipureintro
            have hsr : arg10.view.readAt (Elt Ideal) (Rect.unit (s := S512x3072) ![0, 0] S512x3072.size inb_S512x3072_S512x3072_0_0).toLoadRect (harg10.unread s) = s := whole_read arg10 _ _ _ (harg10.read_unread s)
            have hP := fun j b7 b8 b9 w hw => outBlk (word i t2) (word i t3) s x7 x8 x9 arg7 arg8 arg9 (harg7.read_unread x7) (harg8.read_unread x8) (harg9.read_unread x9) (read2 c i t2) (read3 c i t3) hsr j b7 b8 b9 (w := w) hw
            refine out_read arg9 _ _ ?_
            exact
              .cons (hP 10 (by decide) (by decide) _ _ rfl) <|
              .cons (hP 9 (by decide) (by decide) _ _ rfl) <|
              .cons (hP 8 (by decide) (by decide) _ _ rfl) <|
              .cons (hP 7 (by decide) (by decide) _ _ rfl) <|
              .cons (hP 6 (by decide) (by decide) _ _ rfl) <|
              .cons (hP 5 (by decide) (by decide) _ _ rfl) <|
              .cons (hP 4 (by decide) (by decide) _ _ rfl) <|
              .cons (hP 3 (by decide) (by decide) _ _ rfl) <|
              .cons (hP 2 (by decide) (by decide) _ _ rfl) <|
              .cons (hP 1 (by decide) (by decide) _ _ rfl) <|
              .cons (hP 0 (by decide) (by decide) _ _ rfl) <|
              .nil
          · iexists _; isplitr; swap; (· iexact HS); ipureintro; exact harg10.read_unread _
        isplitl [HT0]; · iexact HT0
        isplitl [HT1]; · iexact HT1
        isplitl [HT2]; · iexact HT2
        isplitl [HT3]; · iexact HT3
        isplitl [HT4]; · iexact HT4
        iexists _; iexact HW
      · rename_i h2
        sl_exec
        have q4 : run.sl.v4 c i t4 = 1#1 ↔ word i t4 = 1#32 := by rw [← read4 c i t4]; exact first_iff _
        sl_step
        iapply Hk
        isplitl [H6]; · iexists _; isplitr; (· ipureintro; exact harg6.read_unread _); iexact H6
        isplitl [H7]; · iexists _; isplitr; (· ipureintro; exact harg7.read_unread _); iexact H7
        isplitl [H8]; · iexists _; isplitr; (· ipureintro; exact harg8.read_unread _); iexact H8
        isplitl [H9 HS]
        · iexists (outTile (word i t2) (word i t3) s x7 x8 x9), s
          isplitr; · ipureintro; exact ⟨(if_neg fun h => h1 (q4.2 h)).symm, rfl⟩
          isplitl [H9]
          · iexists _; isplitr; swap; (· iexact H9); ipureintro
            refine (harg9.read_unread x9).trans (outTile_dead _ _ _ _ _ _ fun h => h2 ?_).symm
            have := (live_iff _ _).2 h; rw [← read2 c i t2, ← read3 c i t3] at this; exact this
          · iexists _; isplitr; swap; (· iexact HS); ipureintro; exact harg10.read_unread _
        isplitl [HT0]; · iexact HT0
        isplitl [HT1]; · iexact HT1
        isplitl [HT2]; · iexact HT2
        isplitl [HT3]; · iexact HT3
        isplitl [HT4]; · iexact HT4
        iexists _; iexact HW

end Cert.Value

end
-- ==== Proof.Value.Step.lean ====
module

public import proofs.«01_k».proof.Proof.Value.Dot
public import proofs.«01_k».proof.Proof.Plan.Sizes
public import Idealize.ShloMosaic.Lib.WordCmp

/-! One visit of the kernel, over the extended reals: if the rows of the tile below the visit's first are already the result's, and
    the scratch holds the tile of the gradient, then after the visit the rows below the visit's end are the result's. -/

@[expose] public section

set_option maxRecDepth 16384

noncomputable section

namespace Cert.Value

open Idealize.ShloMosaic Cert.KernelIdeal Cert.KernelIdeal.Gen
open Idealize.ShloMosaic.ValueIdx (ix1 ix2 ix3)
open scoped BigOperators

/-- The group of a row: how many groups end at or before it. -/
def exN (s : ℕ → ℕ) (r : ℕ) : ℕ := min (Nat.count (fun e => Plan.pre s (e + 1) ≤ r) 32) 31
def exF (s : ℕ → ℕ) (r : ℕ) : Fin 32 := ⟨exN s r, by unfold exN; omega⟩

theorem exN_eq (s : ℕ → ℕ) {r e : ℕ} (he : e < 32) (h1 : Plan.pre s e ≤ r) (h2 : r < Plan.pre s (e + 1)) : exN s r = e := by
  have hc : ∀ a, a < 32 → (Plan.pre s (a + 1) ≤ r ↔ a < Nat.count (fun e => Plan.pre s (e + 1) ≤ r) 32) := fun a ha =>
    Idealize.ShloMosaic.Routing.lt_count_iff (fun a b hab _ hb => le_trans (Plan.pre_mono s (Nat.succ_le_succ hab)) hb) ha
  have hn : ¬ e < Nat.count (fun e => Plan.pre s (e + 1) ≤ r) 32 := fun h => absurd ((hc e he).2 h) (by omega)
  unfold exN
  rcases Nat.eq_zero_or_pos e with rfl | hpos
  · omega
  · have := (hc (e - 1) (by omega)).1 (by rw [Nat.sub_add_cancel hpos]; exact h1)
    omega

/-- The row of the array under row `r` of tile `T`. -/
def rowOf (T r : ℕ) : Fin 65536 := ⟨(T * 512 + r) % 65536, Nat.mod_lt _ (by decide)⟩

theorem rowOf_val {T r : ℕ} (hT : T ≤ 127) (hr : r < 512) : (rowOf T r).val = T * 512 + r := Nat.mod_eq_of_lt (by omega)

section
variable (dy : Vec Ideal S65536x3072 .bf16) (w : Vec Ideal S32x2816x3072 .fp8e4m3) (sc : Vec Ideal S32x2816 .f32) (s : ℕ → ℕ)

/-- The result: each row of the gradient times its group's weights, times the group's scales. -/
def target : Vec Ideal S65536x2816 .bf16 := fun y =>
  (∑ k : Fin 3072, dy (ix2 (y 0) k) * w (ix3 (exF s (y 0).val) (y 1) k)) * sc (ix2 (exF s (y 0).val) (y 1))

/-- A tile of the gradient. -/
def dyTile (T : ℕ) : Vec Ideal S512x3072 .bf16 := fun y => dy (ix2 (rowOf T (y 0).val) (y 1))

/-- The rows of visit `t`'s tile below the visit's end are the result's. -/
def Done (t : ℕ) (X : Vec Ideal S512x2816 .bf16) : Prop :=
  ∀ (r : Fin 512) (c : Fin 2816), Plan.tl s t * 512 + r.val < Plan.hh s t → X (ix2 r c) = target dy w sc s (ix2 (rowOf (Plan.tl s t) r.val) c)

theorem live_iff_nat {a b r : ℕ} (ha : a ≤ 512) (hb : b ≤ 512) (hr : r < 512) : Live (BitVec.ofNat 32 a) (BitVec.ofNat 32 b) r ↔ a ≤ r ∧ r < b := by
  have h : ∀ n, n ≤ 512 → (BitVec.ofNat 32 n).toInt = n := fun n hn => by
    rw [WordCmp.toInt_eq_toNat_of_lt_half (by rw [WordCmp.toNat_ofNat_of_lt (by omega)]; omega), WordCmp.toNat_ofNat_of_lt (by omega)]
  unfold Live
  rw [h a ha, h b hb, h r (by omega)]
  omega

variable (hN : Plan.pre s 32 = 65536)
include hN

/-- The scratch after the visit: the tile of the gradient. -/
theorem scratch_step {t : ℕ} {x s' : Vec Ideal S512x3072 .bf16} (hx : t ≠ 0 → x = dyTile dy (Plan.tl s (t - 1)))
    (hs : s' = if BitVec.ofNat 32 (if t < Plan.nv s ∧ Plan.gg s t = Plan.tl s t * 512 then 1 else 0) = 1#32 then dyTile dy (Plan.tl s t) else x) :
    s' = dyTile dy (Plan.tl s t) := by
  by_cases hf : t < Plan.nv s ∧ Plan.gg s t = Plan.tl s t * 512
  · rw [hs, if_pos hf, if_pos rfl]
  · rw [hs, if_neg hf, if_neg (by decide)]
    have ht : t ≠ 0 := by
      rintro rfl
      exact hf ⟨Plan.nv_pos s hN, by rw [Plan.gg_zero s hN, Plan.tl_zero s hN]⟩
    rw [hx ht]
    have hst := Plan.step s hN (t - 1)
    rw [Nat.sub_add_cancel (Nat.pos_of_ne_zero ht)] at hst
    rcases hst with h | h
    · rw [h.1]
    · exact absurd ⟨h.2.1, h.2.2.2⟩ hf

/-- The output tile after the visit. -/
theorem out_step {t : ℕ} {lo hi : BitVec 32} (hlo : lo = BitVec.ofNat 32 (if t < Plan.nv s then Plan.gg s t - Plan.tl s t * 512 else 0))
    (hhi : hi = BitVec.ofNat 32 (if t < Plan.nv s then Plan.hh s t - Plan.tl s t * 512 else 0))
    {x7 : Vec Ideal S1x2816x3072 .fp8e4m3} {x8 : Vec Ideal S1x1x2816 .f32} {Y : Vec Ideal S512x2816 .bf16}
    (h7 : t < Plan.nv s → ∀ (c : Fin 2816) (k : Fin 3072), x7 (ix3 0 c k) = w (ix3 (Fin.ofNat 32 (Plan.ex s t)) c k))
    (h8 : t < Plan.nv s → ∀ c : Fin 2816, x8 (ix3 0 0 c) = sc (ix2 (Fin.ofNat 32 (Plan.ex s t)) c))
    (hY : t ≠ 0 → Plan.tl s t = Plan.tl s (t - 1) → Done dy w sc s (t - 1) Y) :
    Done dy w sc s t (outTile lo hi (dyTile dy (Plan.tl s t)) x7 x8 Y) := by
  intro r c hrow
  have hT := Plan.tl_le s hN t
  have hr := r.isLt
  subst hlo hhi
  have hprev : t ≠ 0 → Plan.tl s t = Plan.tl s (t - 1) → Plan.tl s t * 512 + r.val < Plan.hh s (t - 1) →
      Y (ix2 r c) = target dy w sc s (ix2 (rowOf (Plan.tl s t) r.val) c) := fun h0 ht hlt => by
    have := hY h0 ht r c (by rw [← ht]; exact hlt)
    rw [this, ht]
  unfold outTile
  by_cases ht : t < Plan.nv s
  · have g := Plan.gg_lt_hh s ht
    rw [if_pos ht, if_pos ht]
    have hl := live_iff_nat (a := Plan.gg s t - Plan.tl s t * 512) (b := Plan.hh s t - Plan.tl s t * 512) (by omega) (by omega) hr
    by_cases hlive : Plan.gg s t - Plan.tl s t * 512 ≤ r.val ∧ r.val < Plan.hh s t - Plan.tl s t * 512
    · refine (if_pos (hl.2 hlive)).trans ?_
      have he := (Plan.ex_spec s ht).1
      have hex : exN s (rowOf (Plan.tl s t) r.val).val = Plan.ex s t := exN_eq s he (by rw [rowOf_val hT hr]; omega) (by rw [rowOf_val hT hr]; omega)
      have heF : exF s (rowOf (Plan.tl s t) r.val).val = Fin.ofNat 32 (Plan.ex s t) := Fin.ext (hex.trans (Nat.mod_eq_of_lt he).symm)
      show (∑ k : Fin 3072, dy (ix2 (rowOf (Plan.tl s t) r.val) k) * x7 (ix3 0 c k)) * x8 (ix3 0 0 c)
        = (∑ k : Fin 3072, dy (ix2 (rowOf (Plan.tl s t) r.val) k) * w (ix3 (exF s (rowOf (Plan.tl s t) r.val).val) c k)) * sc (ix2 (exF s (rowOf (Plan.tl s t) r.val).val) c)
      rw [heF, h8 ht]
      simp only [h7 ht]
    · refine (if_neg fun h => hlive (hl.1 h)).trans ?_
      have h0 : t ≠ 0 := by
        rintro rfl
        have := Plan.gg_zero s hN
        omega
      have hst := Plan.step s hN (t - 1)
      rw [Nat.sub_add_cancel (Nat.pos_of_ne_zero h0)] at hst
      rcases hst with h | h
      · exact hprev h0 h.1 (by have := h.2.1 ht; omega)
      · omega
  · rw [if_neg ht, if_neg ht]
    refine (if_neg fun h => absurd ((live_iff_nat (by omega) (by omega) hr).1 h) (by omega)).trans ?_
    have h0 : t ≠ 0 := fun h => ht (by rw [h]; exact Plan.nv_pos s hN)
    have hst := Plan.step s hN (t - 1)
    rw [Nat.sub_add_cancel (Nat.pos_of_ne_zero h0)] at hst
    rcases hst with h | h
    · exact hprev h0 h.1 (by rw [h.2.2 (by omega)]; omega)
    · exact absurd h.2.1 ht

end

end Cert.Value

end
-- ==== Proof.Value.Blocks.lean ====
module

public import proofs.«01_k».proof.Proof.Value.Run
public import proofs.«01_k».proof.Proof.Value.Step
public import proofs.«01_k».proof.Proof.KernelIdeal.Frame
public import Idealize.ShloMosaic.Lib.Pipeline.Value
public import Idealize.ShloMosaic.Lib.Pipeline.ArrRel
public import Idealize.ShloMosaic.Lib.Pipeline.TableIdle

/-! What the kernel's windows hold at a grid point, over the extended reals, and which points write the output back. -/

@[expose] public section

set_option maxRecDepth 16384

noncomputable section

namespace Cert.Value

open Idealize.ShloMosaic Idealize.ShloMosaic.TcCoe Idealize.ShloMosaic.Pipeline
open Cert.KernelIdeal Cert.KernelIdeal.Gen Cert.KernelIdeal.Hand

attribute [local irreducible] tbl Plan.tl Plan.nv Plan.gg Plan.hh Plan.ex

variable (m : (ℓ : Loc nD τ sig) → Buf (Elt Ideal) ℓ) (hO : Ok m) {s : ℕ → ℕ} (hs : Plan.Sized (sizes m 0) s)

/-- The arrays at launch, on the one device. -/
abbrev dyA : Vec Ideal S65536x3072 .bf16 := m (((0 : Dev nD) : Thread nD τ).loc main_arg0)
abbrev wA : Vec Ideal S32x2816x3072 .fp8e4m3 := m (((0 : Dev nD) : Thread nD τ).loc main_arg2)
abbrev scA : Vec Ideal S32x2816 .f32 := m (((0 : Dev nD) : Thread nD τ).loc main_arg3)

theorem gi_coords (t : Fin grid0.N) : (gi (grid0.coords t)).val = t.val := by
  have h : grid0.stride 0 = 1 := by decide
  show t.val / grid0.stride 0 % 160 = t.val
  rw [h, Nat.div_one, Nat.mod_eq_of_lt (lt_of_lt_of_eq t.isLt (by decide))]

include hs

theorem word_lo (t : Fin grid0.N) : word (grid0.coords t) (tbl m 2) = BitVec.ofNat 32 (if t.val < Plan.nv s then Plan.gg s t.val - Plan.tl s t.val * 512 else 0) := by
  have h := Plan.loT_ap wit (sizes m 0) s hs.ap hs.sum (gi (grid0.coords t))
  rw [gi_coords] at h
  exact (congrFun (tbl2 m) _).trans h
theorem word_hi (t : Fin grid0.N) : word (grid0.coords t) (tbl m 3) = BitVec.ofNat 32 (if t.val < Plan.nv s then Plan.hh s t.val - Plan.tl s t.val * 512 else 0) := by
  have h := Plan.hiT_ap wit (sizes m 0) s hs.ap hs.sum (gi (grid0.coords t))
  rw [gi_coords] at h
  exact (congrFun (tbl3 m) _).trans h
theorem word_first (t : Fin grid0.N) : word (grid0.coords t) (tbl m 4) = BitVec.ofNat 32 (if t.val < Plan.nv s ∧ Plan.gg s t.val = Plan.tl s t.val * 512 then 1 else 0) := by
  have h := Plan.firstT_ap wit (sizes m 0) s hs.ap hs.sum (gi (grid0.coords t))
  rw [gi_coords] at h
  exact (congrFun (tbl4 m) _).trans h

theorem iblk0_at (t : Fin (cfgM m hO).N) (r : Fin 512) (k : Fin 3072) :
    (iblk m hO 0 0 t : Vec Ideal S512x3072 .bf16) (ValueIdx.ix2 r k) = dyA m (ValueIdx.ix2 (rowOf (Plan.tl s t.val) r.val) k) := by
  refine (congrFun (V_arg m 0 main_arg0 (by simp)) _).trans (congrArg (dyA m) (funext fun a => Fin.ext ?_))
  refine (((cfgM m hO).win 0).rect_emb_val t _ a).trans ?_
  have h := map0 m hs (grid0.coords t)
  rw [gi_coords] at h
  show cc0_transform_0 k0_off1_inb numel1_S1 (tbl m) (grid0.coords t) a * S512x3072.size a + ((ValueIdx.ix2 r k : S512x3072.Idx) a).val = _
  rw [h]
  fin_cases a
  · show Plan.tl s t.val * 512 + r.val = (rowOf (Plan.tl s t.val) r.val).val
    rw [rowOf_val (Plan.tl_le s hs.sum t.val) r.isLt]
  · show 0 * 3072 + k.val = k.val; omega

theorem iblk0_eq (t : Fin (cfgM m hO).N) : (iblk m hO 0 0 t : Vec Ideal S512x3072 .bf16) = dyTile (dyA m) (Plan.tl s t.val) := by
  refine funext fun (y : S512x3072.Idx) => ?_
  obtain ⟨r, k, rfl⟩ : ∃ (r : Fin 512) (k : Fin 3072), y = ValueIdx.ix2 r k := ⟨y 0, y 1, ValueIdx.eq_ix2 y⟩
  exact iblk0_at m hO hs t r k

theorem iblk1_eq (t : Fin (cfgM m hO).N) (ht : t.val < Plan.nv s) (c : Fin 2816) (k : Fin 3072) :
    (iblk m hO 0 1 t : Vec Ideal S1x2816x3072 .fp8e4m3) (ValueIdx.ix3 0 c k) = wA m (ValueIdx.ix3 (Fin.ofNat 32 (Plan.ex s t.val)) c k) := by
  refine (congrFun (V_arg m 0 main_arg2 (by simp)) _).trans (congrArg (wA m) (funext fun a => Fin.ext ?_))
  refine (((cfgM m hO).win 1).rect_emb_val t _ a).trans ?_
  obtain ⟨e, he, hex, h⟩ := map1 m hs (grid0.coords t)
  rw [gi_coords] at hex
  show cc0_transform_1 k0_off1_inb numel1_S1 (tbl m) (grid0.coords t) a * S1x2816x3072.size a + ((ValueIdx.ix3 0 c k : S1x2816x3072.Idx) a).val = _
  rw [h]
  have hx := hex ht
  fin_cases a
  · show e * 1 + 0 = Plan.ex s t.val % 32; omega
  · show 0 * 2816 + c.val = c.val; omega
  · show 0 * 3072 + k.val = k.val; omega

theorem iblk2_eq (t : Fin (cfgM m hO).N) (ht : t.val < Plan.nv s) (c : Fin 2816) :
    (iblk m hO 0 2 t : Vec Ideal S1x1x2816 .f32) (ValueIdx.ix3 0 0 c) = scA m (ValueIdx.ix2 (Fin.ofNat 32 (Plan.ex s t.val)) c) := by
  refine (congrFun (V_scale m 0) _).trans ?_
  refine shapeCast_apply _ _ _ _ ?_
  obtain ⟨e, he, hex, h⟩ := map2 m hs (grid0.coords t)
  rw [gi_coords] at hex
  have hx := hex ht
  have hemb : (((cfgM m hO).win 2).rect t).emb (ValueIdx.ix3 0 0 c : S1x1x2816.Idx) = (ValueIdx.ix3 (Fin.ofNat 32 (Plan.ex s t.val)) 0 c : S32x1x2816.Idx) := by
    funext a
    refine Fin.ext ((((cfgM m hO).win 2).rect_emb_val t _ a).trans ?_)
    show cc0_transform_2 k0_off1_inb numel1_S1 (tbl m) (grid0.coords t) a * S1x1x2816.size a + ((ValueIdx.ix3 0 0 c : S1x1x2816.Idx) a).val = _
    rw [h]
    fin_cases a
    · show e * 1 + 0 = Plan.ex s t.val % 32; omega
    · rfl
    · show 0 * 2816 + c.val = c.val; omega
  refine Eq.trans ?_ (congrArg (fun j => (Shape.rowMajor S32x1x2816 j).val) hemb).symm
  have e2 : (Shape.rowMajor S32x2816 (ValueIdx.ix2 (Fin.ofNat 32 (Plan.ex s t.val)) c)).val
      = (Shape.rowMajor S32x1x2816 (ValueIdx.ix3 (Fin.ofNat 32 (Plan.ex s t.val)) 0 c)).val := by
    rw [Shape.rowMajor_val_two, Shape.rowMajor_val_three]; simp
  exact e2

/-- Where the result's window sits, and that a point before a change of tile, or the last, writes it back. -/
theorem index3 (t : Fin (cfgM m hO).N) : ((cfgM m hO).win 3).index t = ![Plan.tl s t.val, 0] := by
  have h := map3 m hs (grid0.coords t)
  rw [gi_coords] at h
  exact h

theorem flush3 (t : Fin (cfgM m hO).N) : ((cfgM m hO).win 3).flush t = true ↔ (t.val = 159 ∨ Plan.tl s (t.val + 1) ≠ Plan.tl s t.val) := by
  have hN : grid0.N = 160 := by decide
  rw [Window.flush_eq_flushF]
  unfold Window.flushF
  have ho : ((cfgM m hO).win 3).isOut = true := rfl
  rw [ho, Bool.true_and, Bool.or_eq_true, decide_eq_true_eq, decide_eq_true_eq]
  have h160 : (cfgM m hO).N = 160 := hN
  have h161 : (cfgM m hO).grid.N = 160 := hN
  have hlt := t.isLt
  constructor
  · rintro (h | ⟨h, a, ha⟩)
    · exact .inl (by omega)
    · refine .inr fun e => ha ?_
      rw [index3 m hO hs, index3 m hO hs, e]
  · rintro (h | h)
    · exact .inl (by omega)
    · by_cases h9 : t.val = 159
      · exact .inl (by omega)
      · have h1 : t.val + 1 < (cfgM m hO).N := by omega
        refine .inr ⟨h1, (show Fin 2 from 0), fun e => h ?_⟩
        rw [index3 m hO hs, index3 m hO hs] at e
        exact e

end Cert.Value

end
-- ==== Proof.Value.Launch.lean ====
module

public import proofs.«01_k».proof.Proof.Value.Blocks
public import Idealize.ShloMosaic.Lib.Pipeline.DatRel

/-! The kernel's run over the extended reals, its result named: at each point the rows of the tile that are done are the result's,
    and each tile is written back with all its rows done. -/

@[expose] public section

set_option maxRecDepth 16384

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.KernelIdeal Cert.KernelIdeal.Gen Cert.KernelIdeal.Hand

local notation "𝕄" => MT nD τ sig Unit (Elt Ideal) ℕ (UR sig nD τ) ℕ

attribute [local irreducible] tbl Plan.tl Plan.nv Plan.gg Plan.hh Plan.ex

variable (m : (ℓ : Loc nD τ sig) → Buf (Elt Ideal) ℓ) (s : ℕ → ℕ)

/-- What the scratch holds before point `t`: after the first, the gradient tile of the point before. -/
def Held (t : ℕ) (x : Vec Ideal S512x3072 .bf16) : Prop := t ≠ 0 → x = dyTile (dyA m) (Plan.tl s (t - 1))

/-- The proof data: those of the frame, with what the scratch holds. -/
def datV (hO : Ok m) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ t := iprop(((∃ x, ⌜Held m s t.val x⌝ ∗ owns (c : Thread nD τ) scM fullShare x) ∗ ∃ r, prngReg c r) ∗ Pipeline.ΦT pre0 (tbl m) c)
  q _ := fullShare
  owed _ := 0

/-- What the output's buffer holds after a point: the done rows are the result's. -/
def relV (hO : Ok m) (w : Fin (cfgM m hO).W) (t : Fin (cfgM m hO).N) : (((cfgM m hO).win w).block.Idx → Elt Ideal ((cfgM m hO).win w).elt) → Prop :=
  match w with
  | ⟨0, _⟩ => fun _ => True
  | ⟨1, _⟩ => fun _ => True
  | ⟨2, _⟩ => fun _ => True
  | ⟨3, h⟩ => fun X => Done (dyA m) (wA m) (scA m) s t.val X

theorem A_eqV (hO : Ok m) (c : Dev nD) (w : Fin (cfgM m hO).W) : (datV m s hO c).A w = V m c (Pipeline.arrRef spec0 w) := by
  dsimp only [datV]

theorem after_0 (hO : Ok m) (c : Dev nD) (t : Fin (cfgM m hO).N) : (datV m s hO c).after 0 t = iblk m hO c 0 t := by dsimp only [datV]; try rfl
theorem after_1 (hO : Ok m) (c : Dev nD) (t : Fin (cfgM m hO).N) : (datV m s hO c).after 1 t = iblk m hO c 1 t := by dsimp only [datV]; try rfl
theorem after_2 (hO : Ok m) (c : Dev nD) (t : Fin (cfgM m hO).N) : (datV m s hO c).after 2 t = iblk m hO c 2 t := by dsimp only [datV]; try rfl

theorem before_0 (hO : Ok m) (c : Dev nD) (t : Fin (cfgM m hO).N) (d) : (datV m s hO c).before 0 t d = iblk m hO c 0 t :=
  before0_0_of m hO (datV m s hO c) (A_eqV m s hO c 0) (after_0 m s hO c) t d
theorem before_1 (hO : Ok m) (c : Dev nD) (t : Fin (cfgM m hO).N) (d) : (datV m s hO c).before 1 t d = iblk m hO c 1 t :=
  before0_1_of m hO (datV m s hO c) (A_eqV m s hO c 1) (after_1 m s hO c) t d
theorem before_2 (hO : Ok m) (c : Dev nD) (t : Fin (cfgM m hO).N) (d) : (datV m s hO c).before 2 t d = iblk m hO c 2 t :=
  before0_2_of m hO (datV m s hO c) (A_eqV m s hO c 2) (after_2 m s hO c) t d

/-- The output's buffer at a point: anything it may then hold. -/
abbrev found (hO : Ok m) (c : Dev nD) (t : Fin (cfgM m hO).N) (Y : Vec Ideal S512x2816 .bf16) : Prop :=
  ((datV m s hO c).toRRel forgets0 (relV m s hO)).Finds (3 : Fin 4) t Y

def preV (hO : Ok m) (c : Dev nD) (t : Fin (cfgM m hO).N) : sProp 𝕄 :=
  iprop((datV m s hO c).Φ t.castSucc ∗ (datV m s hO c).owesAt () t.castSucc
    ∗ (∃ d, owns (c : Thread nD τ) (ms0_0 m hO t) fullShare ((datV m s hO c).before 0 t d))
    ∗ (∃ d, owns (c : Thread nD τ) (ms0_1 m hO t) fullShare ((datV m s hO c).before 1 t d))
    ∗ (∃ d, owns (c : Thread nD τ) (ms0_2 m hO t) fullShare ((datV m s hO c).before 2 t d))
    ∗ (∃ Y, ⌜found m s hO c t Y⌝ ∗ owns (c : Thread nD τ) (ms0_3 m hO t) fullShare Y))

def postV (hO : Ok m) (c : Dev nD) (t : Fin (cfgM m hO).N) : sProp 𝕄 :=
  iprop((datV m s hO c).Φ t.succ ∗ (datV m s hO c).owesAt () t.succ
    ∗ owns (c : Thread nD τ) (ms0_0 m hO t) fullShare ((datV m s hO c).after 0 t)
    ∗ owns (c : Thread nD τ) (ms0_1 m hO t) fullShare ((datV m s hO c).after 1 t)
    ∗ owns (c : Thread nD τ) (ms0_2 m hO t) fullShare ((datV m s hO c).after 2 t)
    ∗ (∃ X, ⌜Done (dyA m) (wA m) (scA m) s t.val X⌝ ∗ owns (c : Thread nD τ) (ms0_3 m hO t) fullShare X))

section
variable {s} (hs : Plan.Sized (sizes m 0) s) (hx : ∀ j, Fin16 (dyA m j))
include hs

/-- Found where the tile is the point before's, the buffer has that point's rows done. -/
theorem found_done (hO : Ok m) (c : Dev nD) (t : Fin (cfgM m hO).N) (Y : Vec Ideal S512x2816 .bf16) (hY : found m s hO c t Y)
    (h0 : t.val ≠ 0) (ht : Plan.tl s t.val = Plan.tl s (t.val - 1)) : Done (dyA m) (wA m) (scA m) s (t.val - 1) Y := by
  have hf : ((cfgM m hO).win 3).fetch t = false := rfl
  rcases (Pipeline.RDat.finds_of_pos _ hf h0 Y).1 hY with h | h
  · have hlt : t.val < 160 := lt_of_lt_of_eq t.isLt (by decide : grid0.N = 160)
    have h' := (flush3 m hO hs ⟨t.val - 1, lt_of_le_of_lt (Nat.sub_le _ _) t.isLt⟩).1 h
    have h'' : t.val - 1 = 159 ∨ Plan.tl s (t.val - 1 + 1) ≠ Plan.tl s (t.val - 1) := h'
    rw [Nat.sub_add_cancel (Nat.pos_of_ne_zero h0), ht] at h''
    rcases h'' with h'' | h''
    · exact absurd h'' (by clear h' h hY; omega)
    · exact absurd rfl h''
  · have e : forgets0 (3 : Fin 4) = true := rfl
    have h3 := fun u X => Dat.toRRel_leaves (fgt := forgets0) (Rl := relV m s hO) (datV m s hO c) (w := (3 : Fin 4)) e (t := u) (X := X)
    have h4 := h3 _ _ h
    change Done (dyA m) (wA m) (scA m) s (t.val - 1) Y at h4
    exact h4

include hx

/-- What a visit leaves. -/
theorem visit (hO : Ok m) (t : Fin (cfgM m hO).N) (x s' : Vec Ideal S512x3072 .bf16) (Y y : Vec Ideal S512x2816 .bf16)
    (hY : found m s hO 0 t Y) (hx0 : Held m s t.val x)
    (hv : Visit (word (grid0.coords t) (tbl m 2)) (word (grid0.coords t) (tbl m 3)) (word (grid0.coords t) (tbl m 4))
      (iblk m hO 0 0 t) (iblk m hO 0 1 t) (iblk m hO 0 2 t) Y x y s') :
    Held m s (t.val + 1) s' ∧ Done (dyA m) (wA m) (scA m) s t.val y := by
  obtain ⟨h1, h2⟩ := hv
  rw [word_first m hs t, iblk0_eq m hO hs t] at h1
  have h3 := scratch_step (dyA m) s hs.sum hx0 h1
  refine ⟨fun _ => h3, ?_⟩
  rw [h2, h3]
  exact out_step (dyA m) (wA m) (scA m) s hs.sum (word_lo m hs t) (word_hi m hs t) (iblk1_eq m hO hs t) (iblk2_eq m hO hs t)
    (found_done m hs hO 0 t Y hY)

theorem sound_bodyV (hO : Ok m) (t : Fin (cfgM m hO).N) :
    preV m s hO 0 t ⊢ wp frame (wpE (defs₀ (F := Ideal)) Variants.none ((0 : Dev nD) : Thread nD τ) none) Set.univ (bodyAt0 (adm m hO) t) (fun _ => postV m s hO 0 t) := by
  unfold preV postV bodyAt0
  simp only [before_0, before_1, before_2]
  rw [after_0, after_1, after_2]
  rw [show (datV m s hO 0).Φ t.castSucc = iprop(((∃ x, ⌜Held m s t.val x⌝ ∗ owns ((0 : Dev nD) : Thread nD τ) scM fullShare x) ∗ ∃ r, prngReg (0 : Dev nD) r) ∗ Pipeline.ΦT pre0 (tbl m) (0 : Dev nD)) from rfl,
    show (datV m s hO 0).Φ t.succ = iprop(((∃ x, ⌜Held m s (t.val + 1) x⌝ ∗ owns ((0 : Dev nD) : Thread nD τ) scM fullShare x) ∗ ∃ r, prngReg (0 : Dev nD) r) ∗ Pipeline.ΦT pre0 (tbl m) (0 : Dev nD)) from rfl,
    PhiT0_eq]
  unfold Dat.owesAt Pipeline.owesWithin
  rw [show (datV m s hO 0).owed t.castSucc = 0 from rfl, show (datV m s hO 0).owed t.succ = 0 from rfl]
  iintro ⟨⟨⟨⟨%x, %hx0, HS⟩, Hg⟩, HT0, HT1, HT2, HT3, HT4⟩, ⟨%W, -, HW⟩, ⟨%d0, H0⟩, ⟨%d1, H1⟩, ⟨%d2, H2⟩, ⟨%d3, %hY, H3⟩⟩
  iapply ((run 0 (grid0.coords t) _ _ _ _ _ _ _ _ (iblk m hO 0 0 t) (iblk m hO 0 1 t) (iblk m hO 0 2 t) d3
    (tbl m 0) (tbl m 1) (tbl m 2) (tbl m 3) (tbl m 4) scM (Memref.isWhole_whole _) x
    (fun j => by rw [iblk0_eq m hO hs t]; exact hx _)) W _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  isplitl [HS]; · iexact HS
  isplitl [HW]; · iexact HW
  iintro ⟨H0, H1, H2, ⟨%y, %s', %hv, H3, HS⟩, HT0, HT1, HT2, HT3, HT4, ⟨%W', HW'⟩⟩
  have hfin := visit m hs hx hO t x s' d3 y hY hx0 hv
  isplitl [HS Hg HT0 HT1 HT2 HT3 HT4]
  · isplitl [HS Hg]
    · isplitl [HS]
      · iexists s'
        isplitr; · ipureintro; exact hfin.1
        iexact HS
      iexact Hg
    isplitl [HT0]; · iexact HT0
    isplitl [HT1]; · iexact HT1
    isplitl [HT2]; · iexact HT2
    isplitl [HT3]; · iexact HT3
    iexact HT4
  isplitl [HW']
  · iexists W'; isplitr; · ipureintro; exact fun _ _ => Or.inl trivial
    iexact HW'
  isplitl [H0]; · iexact H0
  isplitl [H1]; · iexact H1
  isplitl [H2]; · iexact H2
  iexists y
  isplitr; · ipureintro; exact hfin.2
  iexact H3

theorem body_obligationV (hO : Ok m) (c : Dev nD) :
    BodyObligationRel (datV m s hO c) (defs₀ (F := Ideal)) Variants.none () Set.univ forgets0 (relV m s hO) := fun t => by
  obtain rfl : c = 0 := Subsingleton.elim _ _
  rw [bigSep_W0, bigSep_W0, defs₀_row m hO]
  exact triple_restated (sound_bodyV m hs hx hO t) rfl .rfl fun _ => .rfl

end

end Cert.Value

end
-- ==== Proof.Value.Final.lean ====
module

public import proofs.«01_k».proof.Proof.Value.Launch
public import Idealize.ShloMosaic.Lib.Pipeline.ValueKit.Geometry

/-! The kernel's result over the extended reals: every group's rows against that group's weights. -/

@[expose] public section

set_option maxRecDepth 16384

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationRel cellOf)
open Cert.KernelIdeal Cert.KernelIdeal.Gen Cert.KernelIdeal.Hand

local notation "𝕄" => MT nD τ sig Unit (Elt Ideal) ℕ (UR sig nD τ) ℕ

attribute [local irreducible] tbl Plan.tl Plan.nv Plan.gg Plan.hh Plan.ex

variable (m : (ℓ : Loc nD τ sig) → Buf (Elt Ideal) ℓ) (ρ : Dev nD → PrngReg) {s : ℕ → ℕ}
variable (hs : Plan.Sized (sizes m 0) s) (hx : ∀ j, Fin16 (dyA m j)) (hO : Ok m)

/-- The data of each core, the output's buffer held to its done rows. -/
abbrev rdatV (s : ℕ → ℕ) (hO : Ok m) (c : Dev nD) : Pipeline.RDat τ (Elt Ideal) Unit ℕ (UR sig nD τ) ℕ ((Pipeline.pin pcfgs fun _ => adm m hO) 0) c :=
  (datV m s hO c).toRRel forgets0 (relV m s hO)

theorem held_in (c : Dev nD) : iprop(Pipeline.ΦA spec0 c ∗ Pipeline.ΦT pre0 (tbl m) c) ⊢ ((datV m s hO c).Φ 0 : sProp 𝕄) := by
  rw [show (datV m s hO c).Φ 0 = iprop(((∃ x, ⌜Held m s 0 x⌝ ∗ owns (c : Thread nD τ) scM fullShare x) ∗ ∃ r, prngReg c r) ∗ Pipeline.ΦT pre0 (tbl m) c) from rfl]
  unfold Pipeline.ΦA
  rw [scratch_any]
  iintro ⟨⟨⟨%x, HS⟩, Hg⟩, HT⟩
  isplitl [HS Hg]
  · isplitl [HS]
    · iexists x
      isplitr; · ipureintro; exact fun h => absurd rfl h
      iexact HS
    iexact Hg
  iexact HT

theorem held_out (c : Dev nD) : ((datV m s hO c).Φ (Fin.last (cfgM m hO).N) : sProp 𝕄) ⊢ Pipeline.ΦA spec0 c := by
  rw [show (datV m s hO c).Φ (Fin.last (cfgM m hO).N) = iprop(((∃ x, ⌜Held m s (Fin.last (cfgM m hO).N).val x⌝ ∗ owns (c : Thread nD τ) scM fullShare x) ∗ ∃ r, prngReg c r) ∗ Pipeline.ΦT pre0 (tbl m) c) from rfl]
  unfold Pipeline.ΦA
  rw [scratch_any]
  iintro ⟨⟨⟨%x, %h, HS⟩, Hg⟩, HT⟩
  isplitl [HS]
  · iexists x; iexact HS
  iexact Hg

include hs hx in
set_option backward.isDefEq.respectTransparency.types false in
theorem run_value : θ_run defs (onTc (τ := τ) (main (F := Ideal))) (s₀ m ρ) (fun r => Pipeline.RDat.FramePost ((Pipeline.pin pcfgs fun _ => adm m hO) 0) (rdatV m s hO) (V m) r ∧ r.2.sem = fun _ => 0) :=
  Pipeline.RDat.θ_run_frameP_track (Q' := _) pcfgs (fun _ => adm m hO) (0 : Fin 1) launch0 defs₀ Variants.none (rdatV m s hO) m ρ main
    (hbody := fun c => (body_obligationV m hs hx hO c).toRRel) (hshare := fun c => (datV m s hO c).share_full fun _ => rfl)
    (howed := fun _ _ => rfl) (V := V m) (hmain := hmain m Variants.none) (hA := A_eqV m s hO) (hpf := V_pre m)
    (hin := held_in m hO) (hout := held_out m hO)

include hs in
/-- Where the result's block sits in the result. -/
theorem emb3 (t : Fin (cfgM m hO).N) (r : Fin 512) (c : Fin 2816) :
    (((cfgM m hO).win 3).blk t).view.emb (ValueIdx.ix2 r c : S512x2816.Idx) = (ValueIdx.ix2 (rowOf (Plan.tl s t.val) r.val) c : S65536x2816.Idx) := by
  refine funext fun a => Fin.ext ?_
  refine (((cfgM m hO).win 3).rect_emb_val t _ a).trans ?_
  rw [index3 m hO hs t]
  fin_cases a
  · show Plan.tl s t.val * 512 + r.val = (rowOf (Plan.tl s t.val) r.val).val
    rw [rowOf_val (Plan.tl_le s hs.sum t.val) r.isLt]
  · show 0 * 2816 + c.val = c.val; omega

include hs in
/-- Every tile of the result is written back. -/
theorem covers3 : ((cfgM m hO).win 3).Covers := by
  refine ⟨fun a => ?_, fun β => ?_⟩
  · fin_cases a
    · show 0 < 512; omega
    · show 0 < 2816; omega
  · have h0 := (β (⟨0, by decide⟩ : Fin 2)).isLt
    have h1 := (β (⟨1, by decide⟩ : Fin 2)).isLt
    have e0 : ((cfgM m hO).win 3).nblk (⟨0, by decide⟩ : Fin 2) = 128 := by
      show (65536 + 512 - 1) / 512 = 128; rfl
    have e1 : ((cfgM m hO).win 3).nblk (⟨1, by decide⟩ : Fin 2) = 1 := by
      show (2816 + 2816 - 1) / 2816 = 1; rfl
    replace h0 := Nat.le_of_lt_succ (lt_of_lt_of_eq h0 e0)
    replace h1 := Nat.lt_one_iff.1 (lt_of_lt_of_eq h1 e1)
    obtain ⟨i, hi, ht, hc⟩ := Plan.exists_change s hs.sum h0
    have hN : i < (cfgM m hO).N := lt_of_lt_of_eq hi (by decide : 160 = grid0.N)
    refine ⟨⟨i, hN⟩, (flush3 m hO hs ⟨i, hN⟩).2 hc, fun a => ⟨?_, .inl ?_⟩⟩
    · rw [index3 m hO hs ⟨i, hN⟩]
      fin_cases a
      · exact ht
      · exact h1.symm
    · rfl

include hs in
theorem done_read {t : ℕ} {X : Vec Ideal S512x2816 .bf16} (hX : Done (dyA m) (wA m) (scA m) s t X)
    (hc : t = 159 ∨ Plan.tl s (t + 1) ≠ Plan.tl s t) (r : Fin 512) (c : Fin 2816) :
    X (ValueIdx.ix2 r c) = target (dyA m) (wA m) (scA m) s (ValueIdx.ix2 (rowOf (Plan.tl s t) r.val) c) :=
  hX r c (by rw [Plan.done_of_change s hs.sum hc]; have := r.isLt; omega)

include hs in
/-- The result's array after the run. -/
theorem result_of (r) (h : Pipeline.RDat.FramePost ((Pipeline.pin pcfgs fun _ => adm m hO) 0) (rdatV m s hO) (V m) r) :
    (r.2.mem (((0 : Dev nD).tc : Thread nD τ).loc main_v82) : Vec Ideal S65536x2816 .bf16) = target (dyA m) (wA m) (scA m) s := by
  obtain ⟨after, hL, hA⟩ := Pipeline.RDat.FramePost.exists_exact h 0
  refine (hA (3 : Fin 4)).trans ?_
  refine Dat.arrAt_eq_of_covers ((rdatV m s hO 0).withAfter after) (3 : Fin 4) (target (dyA m) (wA m) (scA m) s) (covers3 m hs hO) (fun t hf => ?_) ?_
  rotate_left
  · exact Memref.isWhole_whole _
  intro (y : S512x2816.Idx)
  obtain ⟨r', k, rfl⟩ : ∃ (r' : Fin 512) (k : Fin 2816), y = ValueIdx.ix2 r' k := ⟨y 0, y 1, ValueIdx.eq_ix2 y⟩
  have h3 := Dat.toRRel_leaves (fgt := forgets0) (Rl := relV m s hO) (datV m s hO 0) (w := (3 : Fin 4)) rfl (hL (3 : Fin 4) t hf)
  have h4 := done_read m hs (t := t.val) (X := after (3 : Fin 4) t) h3 ((flush3 m hO hs t).1 hf) r' k
  exact h4.trans (congrArg (target (dyA m) (wA m) (scA m) s) (emb3 m hs hO t r' k).symm)

end Cert.Value

end
-- ==== Proof.Value.RefIndex.lean ====
module

public import proofs.«01_k».proof.Proof.Value.Step
public import proofs.«01_k».proof.Proof.Plan.Values
public import proofs.«01_k».proof.Proof.Gen.ReferenceIdeal.Read

/-! The reference's group of a row: it counts the group ends at or before the row, and takes that group's weights and scales. -/

@[expose] public section

set_option maxRecDepth 16384

noncomputable section

namespace Cert.Value

open Idealize.ShloMosaic Cert.ReferenceIdeal Cert.ReferenceIdeal.Gen Cert.ReferenceIdeal.Read Idealize.ShloMosaic.Routing Idealize.ShloMosaic.WordCmp
open Idealize.ShloMosaic.ValueIdx (ix0 ix1 ix2 ix3)

/-- Taking one matrix of a stack for each row, at a group's number. -/
theorem gather_slab {α : Type} (x : S32x3072x2816.Idx → α) (idx : IVec S65536x1 32) (r : Fin 65536) (k : Fin 3072) (n : Fin 2816)
    (b : Fin 32) (hb : idx (ix2 r (0 : Fin 1)) = BitVec.ofNat 32 b.val) :
    Host.gather gather_S32x3072x2816_S65536x1_S65536x3072x2816_12_0_n_n_0_1_130722816 x idx (ix3 r k n) = x (ix3 b k n) := by
  have hbl := b.isLt
  unfold Host.gather
  refine congrArg x (funext fun a => Fin.ext ?_)
  let d := gather_S32x3072x2816_S65536x1_S65536x3072x2816_12_0_n_n_0_1_130722816
  have hbc : ∀ a, d.batchCoord (ix3 r k n) a = 0 := fun a => d.batchCoord_eq_zero _ _ List.not_mem_nil
  match a with
  | ⟨0, _⟩ =>
    show d.start (ix3 r k n) idx 0 + d.batchCoord (ix3 r k n) 0 + d.offCoord (ix3 r k n) 0 = b.val
    rw [hbc, d.offCoord_eq_zero _ _ (show (0 : Fin 3) ∉ d.sKept by decide)]
    simp only [Nat.add_zero]
    unfold GatherDims.start
    rw [dif_pos (show (0 : Fin 3) ∈ d.startIndexMap by decide)]
    have hsi : d.siIdx (ix3 r k n) ⟨d.startIndexMap.idxOf (0 : Fin 3), by decide⟩ = ix2 r (0 : Fin 1) := by
      funext b'
      apply Fin.ext
      match b' with
      | ⟨0, _⟩ => rfl
      | ⟨1, _⟩ => rfl
    rw [hsi, hb, StableHlo.Predicate.toInt_ofNat_small _ (by omega)]
    show min ((b.val : Int)).toNat (32 - 1) = b.val
    omega
  | ⟨1, _⟩ =>
    show d.start (ix3 r k n) idx 1 + d.batchCoord (ix3 r k n) 1 + d.offCoord (ix3 r k n) 1 = k.val
    unfold GatherDims.start GatherDims.offCoord
    rw [hbc, dif_neg (show ¬ (1 : Fin 3) ∈ d.startIndexMap by decide), dif_pos (show (1 : Fin 3) ∈ d.sKept by decide)]
    simp only [Nat.add_zero, Nat.zero_add]
    rfl
  | ⟨2, _⟩ =>
    show d.start (ix3 r k n) idx 2 + d.batchCoord (ix3 r k n) 2 + d.offCoord (ix3 r k n) 2 = n.val
    unfold GatherDims.start GatherDims.offCoord
    rw [hbc, dif_neg (show ¬ (2 : Fin 3) ∈ d.startIndexMap by decide), dif_pos (show (2 : Fin 3) ∈ d.sKept by decide)]
    simp only [Nat.add_zero, Nat.zero_add]
    rfl

variable (gs : (⟨S32, .i32⟩ : BufTy).Contents (Elt Ideal)) (s : ℕ → ℕ) (hgs : ∀ i : Fin 32, gs (ix1 i) = BitVec.ofNat 32 (s i.val))
variable (hN : Plan.pre s 32 = 65536)
include hgs hN

theorem ref_count (r : Fin 65536) : val_main_v39 (F := Ideal) gs (ix1 r) = BitVec.ofNat 32 (exN s r.val) := by
  have hc : Nat.count (fun e => Plan.pre s (e + 1) ≤ r.val) 32 ≤ 31 := by
    by_contra hn
    have h := (Routing.lt_count_iff (Q := fun e => Plan.pre s (e + 1) ≤ r.val) (N := 32)
      (fun a b hab _ hb => le_trans (Plan.pre_mono s (Nat.succ_le_succ hab)) hb) (show 31 < 32 by decide)).2 (by omega)
    have := r.isLt
    have h' : Plan.pre s 32 ≤ r.val := h
    omega
  have he : exN s r.val = Nat.count (fun e => Plan.pre s (e + 1) ≤ r.val) 32 := by unfold exN; omega
  rw [he]
  unfold val_main_v39 val_main_v38 val_main_c
  refine reduce_count (n := 65536) (m := 32) (by norm_num) (val_main_v37 (F := Ideal) gs) natLt_1_32 reducesTo_S65536x32_S65536_d1 h_S_ r
    (fun e => Plan.pre s (e + 1) ≤ r.val) fun q => ?_
  have hle : Plan.pre s (q.val + 1) ≤ 65536 := hN ▸ Plan.pre_mono s (show q.val + 1 ≤ 32 by omega)
  have e1 : val_main_v35 (F := Ideal) (ix2 r q) = BitVec.ofNat 32 r.val := bcRows _ _ _ r q
  have e2 : val_main_v36 (F := Ideal) gs (ix2 r q) = BitVec.ofNat 32 (Plan.pre s (q.val + 1)) := by
    refine (bcCols _ _ _ r q).trans ?_
    exact cumsum1 (by norm_num) gs s hgs _ (bc0 bcast_S_S_ _ _) reduceWindows_S32_S32_w32s1p31_0 h_S_ q
  rw [val_main_v37_apply, e1, e2]
  exact cmpi_sge_ofNat_eq_one_iff (by have := r.isLt; omega) (by omega)

theorem ref_wrap (r : Fin 65536) : Scalar.select (IntOp.cmpi .slt (val_main_v39 (F := Ideal) gs (ix1 r)) 0#32)
    (IntOp.addi (val_main_v39 (F := Ideal) gs (ix1 r)) 32#32) (val_main_v39 (F := Ideal) gs (ix1 r)) = BitVec.ofNat 32 (exF s r.val).val := by
  have := (exF s r.val).isLt
  rw [ref_count gs s hgs hN r, show (0#32 : BitVec 32) = BitVec.ofNat 32 0 from rfl,
    cmpi_slt_ofNat (show exN s r.val < 2 ^ 31 from lt_of_lt_of_le (exF s r.val).isLt (by norm_num)) (by norm_num), decide_eq_false (by omega)]
  rfl

theorem ref_weights (x : (⟨S32x2816x3072, .bf16⟩ : BufTy).Contents (Elt Ideal)) (r : Fin 65536) (k : Fin 3072) (n : Fin 2816) :
    val_main_v47 (F := Ideal) gs x (ix3 r k n) = x (ix3 (exF s r.val) n k) := by
  unfold val_main_v47
  refine (gather_slab _ _ r k n (exF s r.val) ?_).trans ?_
  · unfold val_main_v46
    exact (bcCol _ _ r).trans (ref_wrap gs s hgs hN r)
  · rw [val_main_v40_apply]
    exact congrArg x (by funext a; fin_cases a <;> rfl)

theorem ref_scales (x : (⟨S32x2816, .f32⟩ : BufTy).Contents (Elt Ideal)) (r : Fin 65536) (n : Fin 2816) :
    val_main_v55 (F := Ideal) gs x (ix2 r n) = x (ix2 (exF s r.val) n) := by
  unfold val_main_v55
  refine gather_row _ rfl rfl rfl rfl rfl x _ r n (exF s r.val) ?_ (by norm_num)
  unfold val_main_v54
  exact (bcCol _ _ r).trans (ref_wrap gs s hgs hN r)

end Cert.Value

end
-- ==== Proof.Value.RefQuant.lean ====
module

public import proofs.«01_k».proof.Proof.Value.Quant
public import proofs.«01_k».proof.Proof.Gen.ReferenceIdeal
public import Idealize.ShloMosaic.Lib.KernelVsHost
public import Idealize.ShloMosaic.Lib.Routing.Ops

/-! The reference's quantiser, over the extended reals: the exponent it takes by a logarithm is large enough, so scaling down,
    clipping and scaling up changes nothing. -/

@[expose] public section

set_option maxRecDepth 16384

noncomputable section

namespace Cert.Value

open Idealize.ShloMosaic Cert.ReferenceIdeal Cert.ReferenceIdeal.Gen
open Idealize.ShloMosaic.ValueIdx (ix0 ix1 ix2 ix3)

/-- The exponent of a block whose largest magnitude is `a`. -/
def refExp (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x37924925#32)) (Ideal.log (Ideal.ofBits .f32 0x40000000#32)))
      + Ideal.ofBits .f32 0x3F800000#32)

theorem zeroBits : Ideal.ofBits .f32 0x00000000#32 = 0 := by
  simp only [Ideal.ofBits, Ideal.ieee]
  norm_num [BitVec.extractLsb', zpow_neg, Nat.shiftRight_eq_div_pow]
theorem oneBits : Ideal.ofBits .f32 0x3F800000#32 = ((1 : ℝ) : EReal) := by
  simp only [Ideal.ofBits, Ideal.ieee]
  norm_num [BitVec.extractLsb', zpow_neg, Nat.shiftRight_eq_div_pow]
theorem twoBits : Ideal.ofBits .f32 0x40000000#32 = ((2 : ℝ) : EReal) := by
  simp only [Ideal.ofBits, Ideal.ieee]
  norm_num [BitVec.extractLsb', zpow_neg, Nat.shiftRight_eq_div_pow]

/-- The exponent is an integer, and the power of two of it is above the scaled magnitude. -/
theorem refExp_spec (a : EReal) (h0 : 0 ≤ a) (h1 : a ≤ Ideal.ofBits .f32 0x7F7F0000#32) :
    ∃ k : ℤ, refExp a = ((k : ℝ) : EReal) ∧ a * ((9586981 / 2 ^ 39 : ℝ) : EReal) < two k := by
  unfold refExp
  rw [zeroBits, oneBits, twoBits, cBits]
  by_cases ha : a = 0
  · refine ⟨0, ?_, ?_⟩
    · rw [ha]
      simp [Ideal.cmp, Scalar.select]
    · rw [ha, zero_mul]
      simp [two]
  · have ht : a ≠ ⊤ := by
      rintro rfl
      rw [maxBits] at h1
      exact absurd h1 (not_le.2 (EReal.coe_lt_top _))
    have hb : a ≠ ⊥ := by
      rintro rfl
      exact absurd h0 (not_le.2 EReal.bot_lt_zero)
    lift a to ℝ using ⟨ht, hb⟩
    have hpos : 0 < a := lt_of_le_of_ne (EReal.coe_nonneg.1 h0) fun e => ha (by rw [← e]; rfl)
    have hu : 0 < a * (9586981 / 2 ^ 39) := mul_pos hpos (by norm_num)
    have hl : (0 : ℝ) < Real.log 2 := Real.log_pos (by norm_num)
    generalize hU : a * (9586981 / 2 ^ 39) = u at hu
    have hU' : (a : EReal) * ((9586981 / 2 ^ 39 : ℝ) : EReal) = (u : EReal) := by rw [← EReal.coe_mul, hU]
    rw [hU']
    refine ⟨⌊Real.log u / Real.log 2⌋ + 1, ?_, ?_⟩
    · have e1 : Ideal.cmp .oeq (a : EReal) 0 = 0#1 := by
        simp [Ideal.cmp, hpos.ne']
      rw [e1]
      show Ideal.liftRound Int.floor (Ideal.div (Ideal.log (u : EReal)) (Ideal.log ((2 : ℝ) : EReal))) + ((1 : ℝ) : EReal) = _
      rw [Ideal.log_coe, Ideal.log_coe, if_neg (not_le.2 hu), if_neg (by norm_num)]
      unfold Ideal.div
      rw [if_neg (by exact_mod_cast hl.ne'), ← EReal.coe_inv, ← EReal.coe_mul, Ideal.liftRound_coe, ← EReal.coe_add, div_eq_mul_inv]
      push_cast
      rfl
    · rw [two, EReal.coe_lt_coe_iff, ← Real.rpow_intCast]
      have hf := Int.lt_floor_add_one (Real.log u / Real.log 2)
      rw [div_lt_iff₀ hl] at hf
      refine (Real.log_lt_log_iff hu (Real.rpow_pos_of_pos (by norm_num) _)).1 ?_
      rw [Real.log_rpow (by norm_num)]
      push_cast
      exact hf

theorem pow_two (k : ℤ) : Ideal.pow (Ideal.ofBits .f32 0x40000000#32) ((k : ℝ) : EReal) = two k := by
  rw [twoBits, Ideal.pow_coe_coe, two]
  exact congrArg _ (Real.rpow_intCast 2 k)
theorem pow_two_neg (k : ℤ) : Ideal.pow (Ideal.ofBits .f32 0x40000000#32) (-((k : ℝ) : EReal)) = two (-k) := by
  rw [← EReal.coe_neg, ← Int.cast_neg]
  exact pow_two (-k)

/-- The largest magnitude of each block. -/
def refMax (x : FVec Ideal S65536x24x128 .f32) : FVec Ideal S65536x24 .f32 :=
  Host.reduce FloatOps.maximumf (Host.absf x) (constant S_ .f32 0xFF800000#32) reducesTo_S65536x24x128_S65536x24_d2 h_S_

theorem red_blocks : S65536x24x128.Reduces [2] S65536x24 := ⟨rfl, by decide, reducesTo_S65536x24x128_S65536x24_d2.2⟩

theorem refMax_eq (x : FVec Ideal S65536x24x128 .f32) (r : Fin 65536) (b : Fin 24) :
    refMax x (ix2 r b) = (Finset.univ : Finset (Fin 128)).fold max ⊥ (fun c => max (x (ix3 r b c)) (-(x (ix3 r b c)))) := by
  unfold refMax
  refine (congrFun (hostReduce_maximumf_eq_multiReduction (Host.absf x) 0xFF800000#32 reducesTo_S65536x24x128_S65536x24_d2 h_S_ red_blocks
    (.inl rfl) rfl) (ix2 r b)).trans ?_
  refine (Idealize.ShloMosaic.Ideal.multiReduction_maximumf_single (Host.absf x) 0xFF800000#32 red_blocks (.inl rfl) rfl (ix2 r b)).trans ?_
  refine (congrArg (fun b => Finset.fold max b _ _) negInfBits).trans ?_
  refine Finset.fold_congr fun c _ => ?_
  have e : red_blocks.lift (ix2 r b) c = ix3 r b c := by
    funext a; fin_cases a <;> rfl
  show Host.absf x (red_blocks.lift (ix2 r b) c) = _
  rw [e]; rfl

theorem le_refMax (x : FVec Ideal S65536x24x128 .f32) (r : Fin 65536) (b : Fin 24) (c : Fin 128) :
    max (x (ix3 r b c)) (-(x (ix3 r b c))) ≤ refMax x (ix2 r b) := by
  rw [refMax_eq]
  exact (Finset.le_fold_max _).2 (.inr ⟨c, Finset.mem_univ c, le_rfl⟩)

theorem refMax_le (x : FVec Ideal S65536x24x128 .f32) (a : EReal) (r : Fin 65536) (b : Fin 24)
    (h : ∀ c, max (x (ix3 r b c)) (-(x (ix3 r b c))) ≤ a) : refMax x (ix2 r b) ≤ a := by
  rw [refMax_eq]
  exact (Finset.fold_max_le _).2 ⟨bot_le, fun c _ => h c⟩

variable (dy : Vec Ideal S65536x3072 .bf16)

/-- The gradient, in blocks of a row's columns. -/
def refBlocks : FVec Ideal S65536x24x128 .f32 :=
  shapeCast S65536x24x128 (extf .f32 dy bitsLt_bf16_f32) shapeCasts_S65536x3072_S65536x24x128
/-- Each block's exponent. -/
def refExps : FVec Ideal S65536x24 .f32 :=
  select (cmpf .oeq (refMax (refBlocks dy)) (broadcastInDim S65536x24 ![] bcast_S_S65536x24 (constant S_ .f32 0x00000000#32)))
    (broadcastInDim S65536x24 ![] bcast_S_S65536x24 (id (constant S_ .f32 0x00000000#32)))
    (addf (Host.floor (Host.divf (Host.log (mulf (refMax (refBlocks dy)) (broadcastInDim S65536x24 ![] bcast_S_S65536x24 (constant S_ .f32 0x37924925#32))))
      (broadcastInDim S65536x24 ![] bcast_S_S65536x24 (Host.log (constant S_ .f32 0x40000000#32)))))
      (broadcastInDim S65536x24 ![] bcast_S_S65536x24 (constant S_ .f32 0x3F800000#32)))
/-- The powers of two the blocks are scaled up by. -/
def refUp : FVec Ideal S65536x24 .f32 :=
  Host.powf (broadcastInDim S65536x24 ![] bcast_S_S65536x24 (constant S_ .f32 0x40000000#32)) (refExps dy)
/-- The powers of two the blocks are scaled down by. -/
def refDown : FVec Ideal S65536x24 .f32 :=
  Host.powf (broadcastInDim S65536x24 ![] bcast_S_S65536x24 (constant S_ .f32 0x40000000#32)) (Host.negf (refExps dy))
/-- The gradient, scaled down and clipped. -/
def refClip : FVec Ideal S65536x24x128 .f32 :=
  minimumf (broadcastInDim S65536x24x128 ![] bcast_S_S65536x24x128 (id (constant S_ .f32 0x47600000#32)))
    (maximumf (broadcastInDim S65536x24x128 ![] bcast_S_S65536x24x128 (id (constant S_ .f32 0xC7600000#32)))
      (mulf (refBlocks dy) (broadcastInDim S65536x24x128 ![0, 1, 2] bcast_S65536x24x1_S65536x24x128_0_1_2
        (broadcastInDim S65536x24x1 ![0, 1] bcast_S65536x24_S65536x24x1_0_1 (refDown dy)))))
/-- The same, as rows. -/
def refQ : FVec Ideal S65536x3072 .f32 := shapeCast S65536x3072 (refClip dy) shapeCasts_S65536x24x128_S65536x3072

theorem refBlocks_at (r : Fin 65536) (b : Fin 24) (c : Fin 128) (k : Fin 3072) (hk : k.val = b.val * 128 + c.val) :
    refBlocks dy (ix3 r b c) = dy (ix2 r k) := by
  unfold refBlocks
  refine (shapeCast_apply _ shapeCasts_S65536x3072_S65536x24x128 (ix3 r b c) (ix2 r k) ?_).trans rfl
  rw [Shape.rowMajor_val_two, Shape.rowMajor_val_three]
  show r.val * 3072 + k.val = (r.val * 24 + b.val) * 128 + c.val
  omega

theorem bcConst {s : Shape} (h : S_.BroadcastsInDim s (![] : Fin 0 → Fin s.rank)) (w : BitVec 32) (j : s.Idx) :
    broadcastInDim s ![] h (constant (F := Ideal) S_ .f32 w) j = Ideal.ofBits .f32 w := Routing.bc0 h _ j

/-- The exponents, at one block, of any vectors in the constants' places. -/
theorem exps_at {s : Shape} (a z z' c l o : FVec Ideal s .f32) (j : s.Idx) :
    select (cmpf .oeq a z) z' (addf (Host.floor (Host.divf (Host.log (mulf a c)) l)) o) j
      = Scalar.select (Ideal.cmp .oeq (a j) (z j)) (z' j) (Ideal.liftRound Int.floor (Ideal.div (Ideal.log (a j * c j)) (l j)) + o j) := rfl
theorem pow_at {s : Shape} (a b : FVec Ideal s .f32) (j : s.Idx) : Host.powf a b j = Ideal.pow (a j) (b j) := rfl
theorem neg_at {s : Shape} (a : FVec Ideal s .f32) (j : s.Idx) : Host.negf a j = -(a j) := rfl
theorem log_at {s : Shape} (a : FVec Ideal s .f32) (j : s.Idx) : Host.log a j = Ideal.log (a j) := rfl
theorem clip_at {s : Shape} (hi lo x p : FVec Ideal s .f32) (j : s.Idx) :
    minimumf hi (maximumf lo (mulf x p)) j = min (hi j) (max (lo j) (x j * p j)) := rfl

theorem refExps_at (j : S65536x24.Idx) : refExps dy j = refExp (refMax (refBlocks dy) j) := by
  unfold refExps refExp
  rw [exps_at, id, bcConst, bcConst, bcConst, Routing.bc0, log_at]
  rfl

theorem refUp_at (j : S65536x24.Idx) : refUp dy j = Ideal.pow (Ideal.ofBits .f32 0x40000000#32) (refExps dy j) := by
  unfold refUp
  rw [pow_at, bcConst]
theorem refDown_at (j : S65536x24.Idx) : refDown dy j = Ideal.pow (Ideal.ofBits .f32 0x40000000#32) (-(refExps dy j)) := by
  unfold refDown
  rw [pow_at, bcConst, neg_at]

theorem down_at (v : FVec Ideal S65536x24 .f32) (r : Fin 65536) (b : Fin 24) (c : Fin 128) :
    broadcastInDim S65536x24x128 ![0, 1, 2] bcast_S65536x24x1_S65536x24x128_0_1_2
      (broadcastInDim S65536x24x1 ![0, 1] bcast_S65536x24_S65536x24x1_0_1 v) (ix3 r b c) = v (ix2 r b) := by
  refine (broadcastInDim_apply _ bcast_S65536x24x1_S65536x24x128_0_1_2 _ (ix3 r b c) (ix3 r b (0 : Fin 1)) (fun a => match a with
    | ⟨0, _⟩ => by show r.val = if (65536 : ℕ) = 1 then 0 else r.val; rw [if_neg (by decide)]
    | ⟨1, _⟩ => by show b.val = if (24 : ℕ) = 1 then 0 else b.val; rw [if_neg (by decide)]
    | ⟨2, _⟩ => by show 0 = if (1 : ℕ) = 1 then 0 else c.val; rw [if_pos rfl])).trans ?_
  exact broadcastInDim_apply _ bcast_S65536x24_S65536x24x1_0_1 v (ix3 r b (0 : Fin 1)) (ix2 r b) (fun a => match a with
    | ⟨0, _⟩ => by show r.val = if (65536 : ℕ) = 1 then 0 else r.val; rw [if_neg (by decide)]
    | ⟨1, _⟩ => by show b.val = if (24 : ℕ) = 1 then 0 else b.val; rw [if_neg (by decide)])

variable (hx : ∀ j, Fin16 (dy j))
include hx

/-- One element: clipped, scaled back, it is what it was. -/
theorem refClip_mul (r : Fin 65536) (b : Fin 24) (c : Fin 128) (k : Fin 3072) (hk : k.val = b.val * 128 + c.val) :
    refClip dy (ix3 r b c) * refUp dy (ix2 r b) = dy (ix2 r k) := by
  have hb : ∀ c : Fin 128, ∃ k : Fin 3072, k.val = b.val * 128 + c.val := fun c => ⟨⟨b.val * 128 + c.val, by omega⟩, rfl⟩
  have hle := le_refMax (refBlocks dy) r b c
  have hmax : refMax (refBlocks dy) (ix2 r b) ≤ Ideal.ofBits .f32 0x7F7F0000#32 := refMax_le _ _ r b fun c => by
    obtain ⟨k', hk'⟩ := hb c
    rw [refBlocks_at dy r b c k' hk']
    exact hx _
  have h0 : 0 ≤ refMax (refBlocks dy) (ix2 r b) := le_trans (by
    rcases le_total 0 (refBlocks dy (ix3 r b c)) with h | h
    · exact le_trans h (le_max_left _ _)
    · exact le_trans (EReal.neg_nonneg.2 h) (le_max_right _ _)) hle
  obtain ⟨e, he, hlt⟩ := refExp_spec _ h0 hmax
  have hup : refUp dy (ix2 r b) = two e := by
    rw [refUp_at, refExps_at, he, pow_two]
  have hdown : refDown dy (ix2 r b) = two (-e) := by
    rw [refDown_at, refExps_at, he, pow_two_neg]
  have hcl : refClip dy (ix3 r b c) = min ((57344 : ℝ) : EReal) (max ((-57344 : ℝ) : EReal) (refBlocks dy (ix3 r b c) * two (-e))) := by
    unfold refClip
    rw [clip_at, id, id, bcConst, bcConst, down_at, hdown, hiBits, loBits]
  rw [hcl, hup, clip_scale _ _ e hle hlt]
  exact refBlocks_at dy r b c k hk

end Cert.Value

end
-- ==== Proof.Value.RefRegion.lean ====
module

public import proofs.«01_k».proof.Proof.Value.RefQuant
public import proofs.«01_k».proof.Proof.Gen.ReferenceIdeal.Read
public import Idealize.ShloMosaic.Lib.Pipeline.ValueKit

/-! What the reference's region leaves: over the extended reals its casts change nothing. -/

@[expose] public section

set_option maxRecDepth 16384

noncomputable section

namespace Cert.Value

open Idealize.ShloMosaic Idealize.ShloMosaic.TcCoe Idealize.ShloMosaic.StableHlo Cert.ReferenceIdeal Cert.ReferenceIdeal.Gen Cert.ReferenceIdeal.Read Idealize.SL.Sem
open Idealize.ShloMosaic.Pipeline (Dat)

variable (m : (ℓ : Loc nD τ sig) → Buf (Elt Ideal) ℓ) (c : Dev nD)

set_option maxRecDepth 8192 in
set_option maxHeartbeats 2000000 in
theorem v25_eq : V0 m c (Proc.devRef .tc main_v25) = refQ (m ((c.tc : Thread nD τ).loc main_arg0)) := by
  unfold refQ refClip refDown refExps refMax refBlocks
  simp only [V0, hostOps0, hostOps0_1, hostOps0_2, hostOps0_3, hostOps0_4, TRef.binary, TRef.ternary, TRef.unary, TRef.toBuf, TRef.ofBuf, cast_eq, List.flatten_cons, List.flatten_nil, List.append_nil, List.cons_append, List.nil_append]
  after_results_simp <;> rfl

theorem v17_eq : Value.exitV m c (Proc.devRef .tc main_v17) = refUp (m ((c.tc : Thread nD τ).loc main_arg0)) := by
  unfold refUp refExps refMax refBlocks
  exact Value.exit_main_v17 m c

theorem refOut2_at (x0 : Vec Ideal S32x2816x3072 .fp8e4m3) (x1 : Vec Ideal S65536x3072 .f32) (y : S32x2816x3072.Idx) :
    out0_2 x0 x1 y = (x0 y : EReal) := by
  unfold out0_2
  rw [View.canon_cons_unit_lit _ _ _ (by decide)]
  unfold k0_pay1
  rw [View.ld_unit_lit _ _ (by decide)]
  rfl

theorem refOut3_at (x0 : Vec Ideal S32x2816x3072 .fp8e4m3) (x1 : Vec Ideal S65536x3072 .f32) (y : S65536x3072.Idx) :
    out0_3 x0 x1 y = (x1 y : EReal) := by
  unfold out0_3
  rw [View.canon_cons_unit_lit _ _ _ (by decide)]
  unfold k0_pay2
  rw [View.ld_unit_lit _ _ (by decide), shapeCast_self]
  rfl

theorem refBlk0_at (t : Fin cfg0.N) (y : S32x2816x3072.Idx) :
    (iblk m c 0 t : Vec Ideal S32x2816x3072 .fp8e4m3) y = (m ((c.tc : Thread nD τ).loc main_arg2) : Vec Ideal S32x2816x3072 .fp8e4m3) y := by
  unfold iblk
  refine (View.read_apply ..).trans ?_
  refine (congrFun (V_main_arg2 m c) _).trans ?_
  refine congrArg (m ((c.tc : Thread nD τ).loc main_arg2) : Vec Ideal S32x2816x3072 .fp8e4m3) (funext fun a => Fin.ext ?_)
  exact (cfg0.win 0).rect_emb_val_of_index_zero t _ ((by decide +kernel : ∀ (t : Fin cfg0.N) a, (cfg0.win 0).index t a = 0) t a) _

theorem refBlk1_at (t : Fin cfg0.N) (y : S65536x3072.Idx) :
    (iblk m c 1 t : Vec Ideal S65536x3072 .f32) y = refQ (m ((c.tc : Thread nD τ).loc main_arg0)) y := by
  unfold iblk
  refine (View.read_apply ..).trans ?_
  refine (congrFun (v25_eq m c) _).trans ?_
  refine congrArg (refQ (m ((c.tc : Thread nD τ).loc main_arg0))) (funext fun a => Fin.ext ?_)
  exact (cfg0.win 1).rect_emb_val_of_index_zero t _ ((by decide +kernel : ∀ (t : Fin cfg0.N) a, (cfg0.win 1).index t a = 0) t a) _

attribute [local irreducible] out0_2 out0_3 iblk refQ

theorem refAfter2_at (t : Fin cfg0.N) (y : S32x2816x3072.Idx) :
    ((dats m 0 c).after 2 t : Vec Ideal S32x2816x3072 .bf16) y = ((m ((c.tc : Thread nD τ).loc main_arg2) : Vec Ideal S32x2816x3072 .fp8e4m3) y : EReal) :=
  (congrFun (after0_2 m c t) y).trans ((refOut2_at (iblk m c 0 t) (iblk m c 1 t) y).trans (refBlk0_at m c t y))

theorem refReg0_at (y : S32x2816x3072.Idx) :
    (Value.reg_main_v26_0 m c : Vec Ideal S32x2816x3072 .bf16) y = (m ((c.tc : Thread nD τ).loc main_arg2) : Vec Ideal S32x2816x3072 .fp8e4m3) y := by
  refine ((dats m 0 c).arrAt_emb_eq_after_last 2 (⟨0, by decide⟩ : Fin cfg0.N) (by decide +kernel) y).trans ?_
  exact refAfter2_at m c _ y

theorem refAfter3_at (t : Fin cfg0.N) (y : S65536x3072.Idx) :
    ((dats m 0 c).after 3 t : Vec Ideal S65536x3072 .bf16) y = (refQ (m ((c.tc : Thread nD τ).loc main_arg0)) y : EReal) :=
  (congrFun (after0_3 m c t) y).trans ((refOut3_at (iblk m c 0 t) (iblk m c 1 t) y).trans (refBlk1_at m c t y))

theorem refReg1_at (y : S65536x3072.Idx) :
    (Value.reg_main_v26_1 m c : Vec Ideal S65536x3072 .bf16) y = (refQ (m ((c.tc : Thread nD τ).loc main_arg0)) y : EReal) := by
  refine ((dats m 0 c).arrAt_emb_eq_after_last 3 (⟨0, by decide⟩ : Fin cfg0.N) (by decide +kernel) y).trans ?_
  exact refAfter3_at m c _ y

end Cert.Value

end
-- ==== Proof.Value.Ref.lean ====
module

public import proofs.«01_k».proof.Proof.Value.RefIndex
public import proofs.«01_k».proof.Proof.Value.RefRegion

/-! The reference's result over the extended reals: each row of the gradient against its group's weights, times the group's scales. -/

@[expose] public section

set_option maxRecDepth 16384

noncomputable section

namespace Cert.Value

open Idealize.ShloMosaic Idealize.ShloMosaic.TcCoe Idealize.ShloMosaic.StableHlo Cert.ReferenceIdeal Cert.ReferenceIdeal.Gen Cert.ReferenceIdeal.Read Idealize.SL.Sem
open scoped BigOperators

attribute [local irreducible] refQ refClip refUp val_main_v47 val_main_v55 val_main_v48 val_main_v30 val_main_v29 val_main_v28

/-- The reference's quantised gradient, scaled up again, is the gradient. -/
theorem ref_rows (dy : Vec Ideal S65536x3072 .bf16) (hx : ∀ j, Fin16 (dy j)) (r1 : (⟨S65536x3072, .bf16⟩ : BufTy).Contents (Elt Ideal))
    (h1 : ∀ y : S65536x3072.Idx, r1 y = (refQ dy y : EReal)) (r : Fin 65536) (k : Fin 3072) :
    val_main_v30 (F := Ideal) r1 (refUp dy) (ValueIdx.ix2 r k) = dy (ValueIdx.ix2 r k) := by
  have hk := k.isLt
  have hr := r.isLt
  obtain ⟨b, hb⟩ : ∃ b : Fin 24, b.val = k.val / 128 := ⟨⟨k.val / 128, by omega⟩, rfl⟩
  obtain ⟨d, hd⟩ : ∃ d : Fin 128, d.val = k.val % 128 := ⟨⟨k.val % 128, by omega⟩, rfl⟩
  have e1 : r1 (ValueIdx.ix2 r k) = (refClip dy (ValueIdx.ix3 r b d) : EReal) := by
    refine (h1 _).trans ?_
    unfold refQ
    refine shapeCast_apply _ shapeCasts_S65536x24x128_S65536x3072 (ValueIdx.ix2 r k) (ValueIdx.ix3 r b d) ?_
    rw [Shape.rowMajor_val_two, Shape.rowMajor_val_three]
    show (r.val * 24 + b.val) * 128 + d.val = r.val * 3072 + k.val
    omega
  have e2 : val_main_v29 (F := Ideal) (refUp dy) (ValueIdx.ix2 r k) = (refUp dy (ValueIdx.ix2 r b) : EReal) := by
    rw [val_main_v29_apply, val_main_v28_apply, val_main_v27_apply]
    refine congrArg (refUp dy) (funext fun a => Fin.ext ?_)
    match a with
    | ⟨0, _⟩ => show (r.val * 3072 + k.val) / 3072 = r.val; omega
    | ⟨1, _⟩ => show (r.val * 3072 + k.val) / 128 % 24 = b.val; omega
  rw [val_main_v30_apply, e1, e2]
  exact refClip_mul dy hx r b d k (by omega)

variable (gs : (⟨S32, .i32⟩ : BufTy).Contents (Elt Ideal)) (s : ℕ → ℕ) (hgs : ∀ i : Fin 32, gs (ValueIdx.ix1 i) = BitVec.ofNat 32 (s i.val))
variable (hN : Plan.pre s 32 = 65536)

include hgs hN in
/-- The reference's later operations, at what its region leaves. -/
theorem ref_tail (dy : Vec Ideal S65536x3072 .bf16) (hx : ∀ j, Fin16 (dy j)) (w : Vec Ideal S32x2816x3072 .fp8e4m3) (sc : Vec Ideal S32x2816 .f32)
    (r0 : (⟨S32x2816x3072, .bf16⟩ : BufTy).Contents (Elt Ideal)) (h0 : ∀ y : S32x2816x3072.Idx, r0 y = (w y : EReal))
    (r1 : (⟨S65536x3072, .bf16⟩ : BufTy).Contents (Elt Ideal)) (h1 : ∀ y : S65536x3072.Idx, r1 y = (refQ dy y : EReal)) :
    (val_main_v57 (F := Ideal) gs sc r0 r1 (refUp dy) : Vec Ideal S65536x2816 .bf16) = target dy w sc s := by
  funext y
  obtain ⟨r, n, rfl⟩ : ∃ (r : Fin 65536) (n : Fin 2816), y = ValueIdx.ix2 r n := ⟨y 0, y 1, ValueIdx.eq_ix2 y⟩
  have e48 : val_main_v48 (F := Ideal) gs r0 r1 (refUp dy) (ValueIdx.ix2 r n) = ∑ k : Fin 3072, (dy (ValueIdx.ix2 r k) * w (ValueIdx.ix3 (exF s r.val) n k) : EReal) := by
    rw [val_main_v48_apply]
    refine Finset.sum_congr rfl fun k _ => ?_
    have el : lidx_main_v48 (ValueIdx.ix2 r n) k = ValueIdx.ix2 r k := by funext a; fin_cases a <;> rfl
    have er : ridx_main_v48 (ValueIdx.ix2 r n) k = ValueIdx.ix3 r k n := by funext a; fin_cases a <;> rfl
    rw [el, er, ref_rows dy hx r1 h1 r k, ref_weights gs s hgs hN r0 r k n, h0]
  rw [val_main_v57_apply, val_main_v56_apply, e48, ref_scales gs s hgs hN sc r n]
  rfl

variable (m : (ℓ : Loc nD τ sig) → Buf (Elt Ideal) ℓ) (c : Dev nD)

theorem res_eq : Value.res_main_v57 m c = val_main_v57 (F := Ideal) (m ((c.tc : Thread nD τ).loc main_arg1)) (m ((c.tc : Thread nD τ).loc main_arg3))
    (Value.reg_main_v26_0 m c) (Value.reg_main_v26_1 m c) (refUp (m ((c.tc : Thread nD τ).loc main_arg0))) := by
  have h := val_main_v57_eq (F := Ideal) (Value.exitV m c)
  rw [Value.exit_main_arg1, Value.exit_main_arg3, Value.exit_main_v26_0, Value.exit_main_v26_1] at h
  rw [← v17_eq m c]
  refine Eq.trans ?_ h
  unfold Value.res_main_v57
  rw [Value.exit_main_v17]

/-- The reference's result. -/
theorem ref_value (hx : ∀ j, Fin16 ((m ((c.tc : Thread nD τ).loc main_arg0) : Vec Ideal S65536x3072 .bf16) j))
    (hgs : ∀ i : Fin 32, (m ((c.tc : Thread nD τ).loc main_arg1) : Vec Ideal S32 .i32) (ValueIdx.ix1 i) = BitVec.ofNat 32 (s i.val)) (hN : Plan.pre s 32 = 65536) :
    (Value.res_main_v57 m c : Vec Ideal S65536x2816 .bf16)
      = target (m ((c.tc : Thread nD τ).loc main_arg0)) (m ((c.tc : Thread nD τ).loc main_arg2)) (m ((c.tc : Thread nD τ).loc main_arg3)) s :=
  (res_eq m c).trans (ref_tail _ s hgs hN _ hx _ _ _ (refReg0_at m c) _ (refReg1_at m c))

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_rows_assigned
public import proofs.«01_k».proof.Proof.Gen.Pre_finite_rows_assigned
public import proofs.«01_k».proof.Proof.Kernel.Frame
public import proofs.«01_k».proof.Proof.Kernel.TablesOk
public import proofs.«01_k».proof.Proof.KernelIdeal.Frame
public import proofs.«01_k».proof.Proof.KernelIdeal.TablesOk
public import proofs.«01_k».proof.Proof.Value.Final
public import proofs.«01_k».proof.Proof.Value.Ref
public import Idealize.ShloMosaic.Adequacy
public import Idealize.ShloMosaic.Init

/-! The proof of `Cert.Claim`. The frames of the kernel's two programs come from `Hand.frame`, given that every block the
    tables name lies inside its array (`Hand.ok_of_sized`), which the preconditions give (`Plan.sized_of_rows`,
    `Plan.sized_of_finite`); the reference's frame is the generated one.
    The results are equal because both are `Value.target` (`Value.result_of`, `Value.ref_value`). -/

@[expose] public section

noncomputable section

namespace Cert.Proof

open Idealize.ShloMosaic Idealize.SL.Sem Cert.Kernel

theorem ok_kernel (m : (ℓ : Loc Cert.Kernel.nD Cert.Kernel.τ Cert.Kernel.sig) → Buf (Elt Bits) ℓ) (h : Pre_Kernel m) : Cert.Kernel.Hand.Ok m := by
  obtain ⟨s, hs⟩ := Plan.sized_of_rows _ _ _ _ (h 0)
  exact Cert.Kernel.Hand.ok_of_sized m hs

theorem ok_ideal (m : (ℓ : Loc Cert.KernelIdeal.nD Cert.KernelIdeal.τ Cert.KernelIdeal.sig) → Buf (Elt Ideal) ℓ) (h : Pre_KernelIdeal m) : Cert.KernelIdeal.Hand.Ok m := by
  obtain ⟨s, hs⟩ := Plan.sized_of_rows _ _ _ _ (h 0)
  exact Cert.KernelIdeal.Hand.ok_of_sized m hs

theorem ok_finite (m : (ℓ : Loc Cert.KernelIdeal.nD Cert.KernelIdeal.τ Cert.KernelIdeal.sig) → Buf (Elt Ideal) ℓ) (h : Pre_KernelIdeal_finite_rows_assigned m) : Cert.KernelIdeal.Hand.Ok m := by
  obtain ⟨s, hs⟩ := (Plan.sized_of_finite _ _ _ _ (h 0)).1
  exact Cert.KernelIdeal.Hand.ok_of_sized m hs

/-- Every entry of the gradient is at most the largest finite value, when the precondition says so. -/
theorem fin16_of (x : FVec Ideal Cert.Pre_finite_rows_assigned.S65536x3072 .bf16) (i : Cert.Pre_finite_rows_assigned.S65536x3072.Idx)
    (h : cmpf .ole (Host.absf (extf .f32 x Cert.Pre_finite_rows_assigned.Facts.bitsLt_bf16_f32))
      (fun _ => FloatOps.ofBits .f32 0x7F7F0000#32 : FVec Ideal Cert.Pre_finite_rows_assigned.S65536x3072 .f32) i = 1#1) : Cert.Value.Fin16 (x i) :=
  (WordCmp.ofBool_decide_eq_one_iff (max (x i) (-(x i)) ≤ Ideal.ofBits .f32 0x7F7F0000#32)).1 h

open Cert.Value in
/-- Over the extended reals the kernel's result and the reference's are the same. -/
theorem equal : Cert.algebraic_KernelIdeal_ReferenceIdeal_pre_finite_rows_assigned := by
  intro m g m' g' hp he
  obtain ⟨⟨s, hs⟩, hf⟩ := Plan.sized_of_finite _ _ _ _ (hp 0)
  have hx : ∀ j, Fin16 (dyA m j) := fun j => fin16_of _ j (hf j)
  have hO := Cert.KernelIdeal.Hand.ok_of_sized m hs
  refine ⟨fun c => (target (dyA m) (wA m) (scA m) s : Vec Ideal Cert.KernelIdeal.S65536x2816 .bf16), ?_, ?_⟩
  · refine (θ_run _ _ _).mono (fun r h c => ?_) (run_value m g hs hx hO)
    obtain rfl : c = 0 := Subsingleton.elim _ _
    exact ⟨result_of m hs hO r h.1, Cert.KernelIdeal.Hand.args_of m hO _ (A_eqV m s hO) r h.1 0⟩
  · refine (θ_run _ _ _).mono (fun r h c => ?_) (Cert.ReferenceIdeal.Value.run m' g')
    obtain rfl : c = 0 := Subsingleton.elim _ _
    obtain ⟨e0, e1, e2, e3⟩ := he 0
    refine ⟨(h 0).1.trans ((ref_value s m' 0 (fun j => ?_) (fun i => ?_) hs.sum).trans ?_), (h 0).2⟩
    · rw [e0]; exact hx j
    · rw [e1]; exact hs.ap i
    · rw [e0, e2, e3]

theorem claim : Cert.Claim := ⟨Cert.Kernel.Gen.facts, Cert.KernelIdeal.Gen.facts, Cert.ReferenceIdeal.Gen.facts, Cert.Pre_rows_assigned.Gen.facts, Cert.Pre_finite_rows_assigned.Gen.facts,
  fun m g h => Cert.Kernel.Hand.frame m g (ok_kernel m h),
  fun m g h => Cert.KernelIdeal.Hand.frame m g (ok_ideal m h),
  fun m g h => Cert.KernelIdeal.Hand.frame m g (ok_finite m h),
  fun m g _ => Cert.ReferenceIdeal.Gen.frame m g,
  fun m g _ => Cert.ReferenceIdeal.Gen.frame m g,
  trivial,
  equal⟩

end Cert.Proof

end
